-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_hidden [hPre_finite_hidden : Cert.Pre_finite_hidden.Facts] (m : (ℓ : Loc Cert.KernelIdeal.nD Cert.KernelIdeal.τ Cert.KernelIdeal.sig) → Buf (Elt Ideal) ℓ) : Prop :=
  ∀ c : Dev Cert.KernelIdeal.nD,
    (Cert.Pre_finite_hidden.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_hidden [hPre_finite_hidden : Cert.Pre_finite_hidden.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_hidden.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_hidden [hKernelIdeal : Cert.KernelIdeal.Facts] [hPre_finite_hidden : Cert.Pre_finite_hidden.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_hidden m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_hidden [hReferenceIdeal : Cert.ReferenceIdeal.Facts] [hPre_finite_hidden : Cert.Pre_finite_hidden.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_hidden m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.sign_bit.MaskStatement Cert.KernelIdeal.S16384x128 .f32

def algebraic_KernelIdeal_ReferenceIdeal_pre_finite_hidden [hKernelIdeal : Cert.KernelIdeal.Facts] [hReferenceIdeal : Cert.ReferenceIdeal.Facts] [hPre_finite_hidden : Cert.Pre_finite_hidden.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_hidden m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_hidden : Cert.Pre_finite_hidden.Facts),
    quiescent_Kernel (hKernel := hKernel)
    ∧ quiescent_KernelIdeal (hKernelIdeal := hKernelIdeal)
    ∧ quiescent_KernelIdeal_pre_finite_hidden (hKernelIdeal := hKernelIdeal) (hPre_finite_hidden := hPre_finite_hidden)
    ∧ quiescent_ReferenceIdeal (hReferenceIdeal := hReferenceIdeal)
    ∧ quiescent_ReferenceIdeal_pre_finite_hidden (hReferenceIdeal := hReferenceIdeal) (hPre_finite_hidden := hPre_finite_hidden)
    ∧ preserves_Kernel_KernelIdeal
    ∧ algebraic_KernelIdeal_ReferenceIdeal_pre_finite_hidden (hKernelIdeal := hKernelIdeal) (hReferenceIdeal := hReferenceIdeal) (hPre_finite_hidden := hPre_finite_hidden)
-- ==== Pre_finite_hidden.lean ====
abbrev S16x32768x64 : Shape := ⟨3, ![16, 32768, 64]⟩
abbrev S64x1 : Shape := ⟨2, ![64, 1]⟩
abbrev S64x4096 : Shape := ⟨2, ![64, 4096]⟩
abbrev S64 : Shape := ⟨1, ![64]⟩
abbrev S64x128 : Shape := ⟨2, ![64, 128]⟩
abbrev S_ : Shape := ⟨0, ![]⟩

class Facts : Prop where
  bcast_S_S64x1 : S_.BroadcastsInDim S64x1 (![] : Fin 0 → Fin S64x1.rank)

variable [Facts]

def fn {F : FTy → Type} [FloatOps F] (main_arg0 : FVec F S16x32768x64 .f32) (main_arg1 : FVec F S64x1 .f32) (main_arg2 : FVec F S64x4096 .f32) (main_arg3 : FVec F S64 .f32) (main_arg4 : FVec F S64x128 .f32) (main_arg5 : FVec F S64 .f32) (main_arg6 : FVec F S64x128 .f32) (main_arg7 : FVec F S64 .f32) (main_arg8 : FVec F S64x128 .f32) (main_arg9 : FVec F S64 .f32) (main_arg10 : IVec S_ 32) : IVec S64x1 1 :=
  let main_v0 : FVec F S64x1 .f32 := Host.absf main_arg1
  let main_cst : FVec F S_ .f32 := constant S_ .f32 0x7F800000#32
  let main_v1 : FVec F S64x1 .f32 := broadcastInDim S64x1 ![] bcast_S_S64x1 main_cst
  let main_v2 : IVec S64x1 1 := cmpf .olt main_v0 main_v1
  main_v2
-- ==== Kernel.lean ====
abbrev S16x32768x64 : Shape := ⟨3, ![16, 32768, 64]⟩
abbrev S64x1 : Shape := ⟨2, ![64, 1]⟩
abbrev S64x4096 : Shape := ⟨2, ![64, 4096]⟩
abbrev S64 : Shape := ⟨1, ![64]⟩
abbrev S64x128 : Shape := ⟨2, ![64, 128]⟩
abbrev S_ : Shape := ⟨0, ![]⟩
abbrev S16x16384x128 : Shape := ⟨3, ![16, 16384, 128]⟩
abbrev S1x64 : Shape := ⟨2, ![1, 64]⟩
abbrev S1x128 : Shape := ⟨2, ![1, 128]⟩
abbrev S16x64x64 : Shape := ⟨3, ![16, 64, 64]⟩
abbrev S1x16384x128 : Shape := ⟨3, ![1, 16384, 128]⟩
abbrev S1x64x64 : Shape := ⟨3, ![1, 64, 64]⟩
abbrev S16384x128 : Shape := ⟨2, ![16384, 128]⟩
abbrev S128 : Shape := ⟨1, ![128]⟩
abbrev S1x1x64 : Shape := ⟨3, ![1, 1, 64]⟩
abbrev S16x1x4096 : Shape := ⟨3, ![16, 1, 4096]⟩
abbrev S16x1x64 : Shape := ⟨3, ![16, 1, 64]⟩
abbrev S4096x64 : Shape := ⟨2, ![4096, 64]⟩
abbrev S128x64 : Shape := ⟨2, ![128, 64]⟩
abbrev S16x64x32768 : Shape := ⟨3, ![16, 64, 32768]⟩
abbrev S1x1x4096 : Shape := ⟨3, ![1, 1, 4096]⟩
abbrev S1x64x32768 : Shape := ⟨3, ![1, 64, 32768]⟩
abbrev S1x4096 : Shape := ⟨2, ![1, 4096]⟩
abbrev S64x64 : Shape := ⟨2, ![64, 64]⟩
abbrev S64x32768 : Shape := ⟨2, ![64, 32768]⟩

abbrev nBuf : Space → Nat
  | .hbm => 28
  | .vmem => 19
  | .smem => 0
  | _ => 0

abbrev bufTy : (tb : Table) → Fin (tcTables nBuf tb) → BufTy
  | .hbm, ⟨0, _⟩ => ⟨S16x32768x64, .f32⟩
  | .hbm, ⟨1, _⟩ => ⟨S64x1, .f32⟩
  | .hbm, ⟨2, _⟩ => ⟨S64x4096, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S64, .f32⟩
  | .hbm, ⟨10, _⟩ => ⟨S_, .i32⟩
  | .hbm, ⟨11, _⟩ => ⟨S16x16384x128, .f32⟩
  | .hbm, ⟨12, _⟩ => ⟨S1x64, .f32⟩
  | .hbm, ⟨13, _⟩ => ⟨S1x128, .f32⟩
  | .hbm, ⟨14, _⟩ => ⟨S16x64x64, .f32⟩
  | .hbm, ⟨15, _⟩ => ⟨S16x64x64, .f32⟩
  | .hbm, ⟨16, _⟩ => ⟨S16x1x4096, .f32⟩
  | .hbm, ⟨17, _⟩ => ⟨S1x1x64, .f32⟩
  | .hbm, ⟨18, _⟩ => ⟨S16x1x64, .f32⟩
  | .hbm, ⟨19, _⟩ => ⟨S4096x64, .f32⟩
  | .hbm, ⟨20, _⟩ => ⟨S1x64, .f32⟩
  | .hbm, ⟨21, _⟩ => ⟨S128x64, .f32⟩
  | .hbm, ⟨22, _⟩ => ⟨S1x64, .f32⟩
  | .hbm, ⟨23, _⟩ => ⟨S128x64, .f32⟩
  | .hbm, ⟨24, _⟩ => ⟨S1x64, .f32⟩
  | .hbm, ⟨25, _⟩ => ⟨S128x64, .f32⟩
  | .hbm, ⟨26, _⟩ => ⟨S1x64, .f32⟩
  | .hbm, ⟨27, _⟩ => ⟨S16x64x32768, .f32⟩
  | .local _ .vmem, ⟨0, _⟩ => ⟨S1x16384x128, .f32⟩
  | .local _ .vmem, ⟨1, _⟩ => ⟨S1x16384x128, .f32⟩
  | .local _ .vmem, ⟨2, _⟩ => ⟨S1x128, .f32⟩
  | .local _ .vmem, ⟨3, _⟩ => ⟨S1x64x64, .f32⟩
  | .local _ .vmem, ⟨4, _⟩ => ⟨S1x64x64, .f32⟩
  | .local _ .vmem, ⟨5, _⟩ => ⟨S1x1x4096, .f32⟩
  | .local _ .vmem, ⟨6, _⟩ => ⟨S1x1x4096, .f32⟩
  | .local _ .vmem, ⟨7, _⟩ => ⟨S4096x64, .f32⟩
  | .local _ .vmem, ⟨8, _⟩ => ⟨S1x64, .f32⟩
  | .local _ .vmem, ⟨9, _⟩ => ⟨S1x1x64, .f32⟩
  | .local _ .vmem, ⟨10, _⟩ => ⟨S1x1x64, .f32⟩
  | .local _ .vmem, ⟨11, _⟩ => ⟨S128x64, .f32⟩
  | .local _ .vmem, ⟨12, _⟩ => ⟨S1x64, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S1x64, .f32⟩
  | .local _ .vmem, ⟨17, _⟩ => ⟨S1x64x32768, .f32⟩
  | .local _ .vmem, ⟨18, _⟩ => ⟨S1x64x32768, .f32⟩
  | _, _ => ⟨S16x32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem10_1 : DmaSem sig := 18

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32_4 : BitVec 32 := 0#32
  let c64_i32_5 : BitVec 32 := 64#32
  let v13 : BitVec 32 := Scalar.addi c0_i32_4 c64_i32_5
  let c1_i32 : BitVec 32 := 1#32
  ⟨c0_i32_4, v13, c1_i32⟩
def k0_off1 (k0_t1 : Fin k0_t1_loop.trips) : Fin 3 → Nat :=
  let c0_18 : Index := 0#32
  let c0_i32_4 : BitVec 32 := 0#32
  let c1_i32 : BitVec 32 := 1#32
  let arg4 : BitVec 32 := Scf.iv c0_i32_4 c1_i32 k0_t1
  let v74 : Index := Scalar.indexCast arg4
  let c0_19 : Index := 0#32
  ![0, v74.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x64x32768 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== KernelIdeal.lean ====
variable {F : FTy → Type} [FloatOps F]
-- ==== ReferenceIdeal.lean ====
abbrev S16x32768x64 : Shape := ⟨3, ![16, 32768, 64]⟩
abbrev S64x1 : Shape := ⟨2, ![64, 1]⟩
abbrev S64x4096 : Shape := ⟨2, ![64, 4096]⟩
abbrev S64 : Shape := ⟨1, ![64]⟩
abbrev S64x128 : Shape := ⟨2, ![64, 128]⟩
abbrev S_ : Shape := ⟨0, ![]⟩
abbrev S16x64x32768 : Shape := ⟨3, ![16, 64, 32768]⟩
abbrev S64x32768 : Shape := ⟨2, ![64, 32768]⟩
abbrev S1x64x32768 : Shape := ⟨3, ![1, 64, 32768]⟩
abbrev S16x64x64 : Shape := ⟨3, ![16, 64, 64]⟩
abbrev S16x64x64x1 : Shape := ⟨4, ![16, 64, 64, 1]⟩
abbrev S1 : Shape := ⟨1, ![1]⟩
abbrev S1x1x1x1 : Shape := ⟨4, ![1, 1, 1, 1]⟩
abbrev S16x4096 : Shape := ⟨2, ![16, 4096]⟩
abbrev S4096x64 : Shape := ⟨2, ![4096, 64]⟩
abbrev S16x64 : Shape := ⟨2, ![16, 64]⟩
abbrev S1x64 : Shape := ⟨2, ![1, 64]⟩
abbrev S16x128 : Shape := ⟨2, ![16, 128]⟩
abbrev S128x64 : Shape := ⟨2, ![128, 64]⟩
abbrev S16x64x1 : Shape := ⟨3, ![16, 64, 1]⟩

abbrev nBuf : Space → Nat
  | .hbm => 95
  | .vmem => 0
  | .smem => 0
  | _ => 0

abbrev bufTy : (tb : Table) → Fin (tcTables nBuf tb) → BufTy
  | .hbm, ⟨0, _⟩ => ⟨S16x32768x64, .f32⟩
  | .hbm, ⟨1, _⟩ => ⟨S64x1, .f32⟩
  | .hbm, ⟨2, _⟩ => ⟨S64x4096, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S64, .f32⟩
  | .hbm, ⟨10, _⟩ => ⟨S_, .i32⟩
  | .hbm, ⟨11, _⟩ => ⟨S16x64x32768, .f32⟩
  | .hbm, ⟨12, _⟩ => ⟨S64x32768, .f32⟩
  | .hbm, ⟨13, _⟩ => ⟨S1x64x32768, .f32⟩
  | .hbm, ⟨14, _⟩ => ⟨S16x64x32768, .f32⟩
  | .hbm, ⟨15, _⟩ => ⟨S16x64x32768, .f32⟩
  | .hbm, ⟨16, _⟩ => ⟨S16x64x32768, .f32⟩
  | .hbm, ⟨17, _⟩ => ⟨S16x64x64, .f32⟩
  | .hbm, ⟨18, _⟩ => ⟨S16x64x64, .i32⟩
  | .hbm, ⟨19, _⟩ => ⟨S_, .i32⟩
  | .hbm, ⟨20, _⟩ => ⟨S16x64x64, .i32⟩
  | .hbm, ⟨21, _⟩ => ⟨S16x64x64, .i1⟩
  | .hbm, ⟨22, _⟩ => ⟨S_, .i32⟩
  | .hbm, ⟨23, _⟩ => ⟨S16x64x64, .i32⟩
  | .hbm, ⟨24, _⟩ => ⟨S16x64x64, .i32⟩
  | .hbm, ⟨25, _⟩ => ⟨S16x64x64, .i32⟩
  | .hbm, ⟨26, _⟩ => ⟨S16x64x64x1, .i32⟩
  | .hbm, ⟨27, _⟩ => ⟨S1, .i32⟩
  | .hbm, ⟨28, _⟩ => ⟨S_, .i32⟩
  | .hbm, ⟨29, _⟩ => ⟨S16x64x64x1, .i32⟩
  | .hbm, ⟨30, _⟩ => ⟨S16x64x64x1, .i1⟩
  | .hbm, ⟨31, _⟩ => ⟨S1x1x1x1, .i32⟩
  | .hbm, ⟨32, _⟩ => ⟨S16x64x64x1, .i32⟩
  | .hbm, ⟨33, _⟩ => ⟨S16x64x64x1, .i1⟩
  | .hbm, ⟨34, _⟩ => ⟨S16x64x64x1, .i1⟩
  | .hbm, ⟨35, _⟩ => ⟨S_, .i1⟩
  | .hbm, ⟨36, _⟩ => ⟨S16x64x64, .i1⟩
  | .hbm, ⟨37, _⟩ => ⟨S16x64x64, .f32⟩
  | .hbm, ⟨38, _⟩ => ⟨S_, .f32⟩
  | .hbm, ⟨39, _⟩ => ⟨S16x64x64, .f32⟩
  | .hbm, ⟨40, _⟩ => ⟨S16x64x64, .f32⟩
  | .hbm, ⟨41, _⟩ => ⟨S16x4096, .f32⟩
  | .hbm, ⟨42, _⟩ => ⟨S4096x64, .f32⟩
  | .hbm, ⟨43, _⟩ => ⟨S16x64, .f32⟩
  | .hbm, ⟨44, _⟩ => ⟨S1x64, .f32⟩
  | .hbm, ⟨45, _⟩ => ⟨S16x64, .f32⟩
  | .hbm, ⟨46, _⟩ => ⟨S16x64, .f32⟩
  | .hbm, ⟨47, _⟩ => ⟨S_, .f32⟩
  | .hbm, ⟨48, _⟩ => ⟨S16x64, .f32⟩
  | .hbm, ⟨49, _⟩ => ⟨S_, .f32⟩
  | .hbm, ⟨50, _⟩ => ⟨S16x64, .f32⟩
  | .hbm, ⟨51, _⟩ => ⟨S16x64, .f32⟩
  | .hbm, ⟨52, _⟩ => ⟨S16x128, .f32⟩
  | .hbm, ⟨53, _⟩ => ⟨S128x64, .f32⟩
  | .hbm, ⟨54, _⟩ => ⟨S16x64, .f32⟩
  | .hbm, ⟨55, _⟩ => ⟨S1x64, .f32⟩
  | .hbm, ⟨56, _⟩ => ⟨S16x64, .f32⟩
  | .hbm, ⟨57, _⟩ => ⟨S16x64, .f32⟩
  | .hbm, ⟨58, _⟩ => ⟨S16x64, .f32⟩
  | .hbm, ⟨59, _⟩ => ⟨S16x64, .f32⟩
  | .hbm, ⟨60, _⟩ => ⟨S_, .f32⟩
  | .hbm, ⟨61, _⟩ => ⟨S16x64, .f32⟩
  | .hbm, ⟨62, _⟩ => ⟨S16x64, .f32⟩
  | .hbm, ⟨63, _⟩ => ⟨S_, .f32⟩
  | .hbm, ⟨64, _⟩ => ⟨S16x64, .f32⟩
  | .hbm, ⟨65, _⟩ => ⟨S16x64, .f32⟩
  | .hbm, ⟨66, _⟩ => ⟨S128x64, .f32⟩
  | .hbm, ⟨67, _⟩ => ⟨S16x64, .f32⟩
  | .hbm, ⟨68, _⟩ => ⟨S1x64, .f32⟩
  | .hbm, ⟨69, _⟩ => ⟨S16x64, .f32⟩
  | .hbm, ⟨70, _⟩ => ⟨S16x64, .f32⟩
  | .hbm, ⟨71, _⟩ => ⟨S16x64, .f32⟩
  | .hbm, ⟨72, _⟩ => ⟨S16x64, .f32⟩
  | .hbm, ⟨73, _⟩ => ⟨S_, .f32⟩
  | .hbm, ⟨74, _⟩ => ⟨S16x64, .f32⟩
  | .hbm, ⟨75, _⟩ => ⟨S16x64, .f32⟩
  | .hbm, ⟨76, _⟩ => ⟨S_, .f32⟩
  | .hbm, ⟨77, _⟩ => ⟨S16x64, .f32⟩
  | .hbm, ⟨78, _⟩ => ⟨S16x64, .f32⟩
  | .hbm, ⟨79, _⟩ => ⟨S16x64, .f32⟩
  | .hbm, ⟨80, _⟩ => ⟨S16x128, .f32⟩
  | .hbm, ⟨81, _⟩ => ⟨S128x64, .f32⟩
  | .hbm, ⟨82, _⟩ => ⟨S16x64, .f32⟩
  | .hbm, ⟨83, _⟩ => ⟨S1x64, .f32⟩
  | .hbm, ⟨84, _⟩ => ⟨S16x64, .f32⟩
  | .hbm, ⟨85, _⟩ => ⟨S16x64, .f32⟩
  | .hbm, ⟨86, _⟩ => ⟨S16x64, .f32⟩
  | .hbm, ⟨87, _⟩ => ⟨S16x64, .f32⟩
  | .hbm, ⟨88, _⟩ => ⟨S_, .f32⟩
  | .hbm, ⟨89, _⟩ => ⟨S16x64, .f32⟩
  | .hbm, ⟨90, _⟩ => ⟨S16x64, .f32⟩
  | .hbm, ⟨91, _⟩ => ⟨S16x64, .f32⟩
  | .hbm, ⟨92, _⟩ => ⟨S16x64, .f32⟩
  | .hbm, ⟨93, _⟩ => ⟨S16x64x1, .f32⟩
  | .hbm, ⟨94, _⟩ => ⟨S16x64x32768, .f32⟩
  | _, _ => ⟨S16x32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_values : Ref sig .tc := ⟨.hbm, 17, rfl⟩
abbrev main_indices : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst : Ref sig .tc := ⟨.hbm, 47, rfl⟩
abbrev main_v13 : Ref sig .tc := ⟨.hbm, 48, rfl⟩
abbrev main_cst_0 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_1 : Ref sig .tc := ⟨.hbm, 60, rfl⟩
abbrev main_v24 : Ref sig .tc := ⟨.hbm, 61, rfl⟩
abbrev main_v25 : Ref sig .tc := ⟨.hbm, 62, rfl⟩
abbrev main_cst_2 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_3 : Ref sig .tc := ⟨.hbm, 73, rfl⟩
abbrev main_v35 : Ref sig .tc := ⟨.hbm, 74, rfl⟩
abbrev main_v36 : Ref sig .tc := ⟨.hbm, 75, rfl⟩
abbrev main_cst_4 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_5 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩

abbrev nD : Nat := 1
abbrev τ : Topo := Topo.v7x

variable {F : FTy → Type} [FloatOps F]
-- ==== Proof.Run.lean ====
/-
  The kernel program's run with its result (hand-written): the launch over the program's four segments, as the frame
  sets it up, read back at the result array as well as at the arguments.
-/
module

public import proofs.«01_k».proof.Proof.Gen.KernelIdeal.Frame

@[expose] public section

set_option maxRecDepth 16384

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

set_option backward.isDefEq.respectTransparency.types false in
/-- Every weakly fair run of the kernel program ends; the result array then holds what the second region's pipeline
    leaves there, and every argument array is as it was at the start. -/
theorem run : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v16 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.Hand

end
-- ==== Proof.Trip.lean ====
/-
  The first region's loop as a recursion of plain vectors, and the block it leaves (hand-written): what one trip carries
  on and stores, and the stored rows read back.
-/
module

public import proofs.«01_k».proof.Proof.Gen.KernelIdeal.Frame
public import Idealize.ShloMosaic.Lib.WordArith.Masks
public import Idealize.ShloMosaic.Lib.Pipeline.Value
public import Idealize.ShloMosaic.Lib.WritesUnit
public import Idealize.ShloMosaic.Lib.Pointwise

@[expose] public section

set_option maxRecDepth 16384

noncomputable section

namespace Cert.Hand

open Cert.KernelIdeal Cert.KernelIdeal.Gen
open Idealize.ShloMosaic Idealize.ShloMosaic.TcCoe
open Idealize.SL.Sem

variable {F : FTy → Type} [FloatOps F]

/-- What the loop carries from trip to trip: per lane the last value taken and the last tag taken. -/
abbrev Carry (F : FTy → Type) [FloatOps F] := FVec F S1x128 .f32 × IVec S1x128 32

/-- The values taken by one trip that starts from the carried pair `acc`, one per column. -/
def best (v0 : Vec F S1x16384x128 .f32) (v2 : Vec F S1x128 .f32) (acc : Carry F) : FVec F S1x64 .f32 :=
  k0_pay11 (k0_pay1 v0) (k0_pay2 v2) k0_pay3 acc.1 acc.2

/-- The tags taken by one trip that starts from the carried pair `acc`, one per column. -/
def bestTag (v0 : Vec F S1x16384x128 .f32) (v2 : Vec F S1x128 .f32) (acc : Carry F) : IVec S1x64 32 :=
  k0_pay13 (k0_pay1 v0) (k0_pay2 v2) k0_pay3 2147483647#32 acc.1 acc.2

/-- The pair one trip carries on. -/
def onward (v0 : Vec F S1x16384x128 .f32) (v2 : Vec F S1x128 .f32) (acc : Carry F) : Carry F :=
  (k0_pay12 (k0_pay1 v0) (k0_pay2 v2) k0_pay3 acc.1 acc.2, k0_pay7 (bestTag v0 v2 acc))

/-- The row one trip stores. -/
def stored (v0 : Vec F S1x16384x128 .f32) (v2 : Vec F S1x128 .f32) (acc : Carry F) : FVec F S1x1x64 .f32 :=
  k0_pay6 v2 (best v0 v2 acc) (bestTag v0 v2 acc) 1#32

/-- The carried pair before trip `k`. -/
def carried (v0 : Vec F S1x16384x128 .f32) (v2 : Vec F S1x128 .f32) : ℕ → Carry F
  | 0 => (k0_pay4, k0_pay5)
  | k + 1 => onward v0 v2 (carried v0 v2 k)

section

variable (𝒱 : Variants) (c : Dev nD) (bd : Option 𝒱.V) (i : grid0.Coords)
  (arg1 : Memref sig .tc .vmem S1x16384x128 .f32) (harg1 : arg1.IsWhole)
  (arg2 : Memref sig .tc .vmem S1x128 .f32) (harg2 : arg2.IsWhole)
  (arg3 : Memref sig .tc .vmem S1x64x64 .f32) (harg3 : arg3.IsWhole)
  (v0 : Vec F S1x16384x128 .f32) (v2 : Vec F S1x128 .f32)

/-- A trip's carried result is `onward`. -/
theorem tripR_eq (k : Fin k0_t1_loop.trips) (acc : Carry F) :
    tripR_k0_t1 (F := F) 𝒱 c bd i arg1 harg1 arg2 harg2 arg3 harg3 v0 v2 k acc = onward v0 v2 acc := by
  unfold tripR_k0_t1 trip_k0_t1
  rfl

/-- A trip stores one piece: `stored`, in row `k`. -/
theorem tripL_eq (k : Fin k0_t1_loop.trips) (acc : Carry F) :
    tripL_k0_t1 (F := F) 𝒱 c bd i arg1 harg1 arg2 harg2 arg3 harg3 v0 v2 k acc
      = [⟨Rect.unit (s := S1x64x64) (k0_off1 k) S1x1x64.size (k0_off1_inb k), stored v0 v2 acc⟩] := by
  unfold tripL_k0_t1 trip_k0_t1
  rfl

/-- The loop makes 64 trips. -/
theorem trips_eq : k0_t1_loop.trips = 64 := by decide

/-- Trip `k` stores at row `k`. -/
theorem off_eq (k : Fin k0_t1_loop.trips) : k0_off1 k = ![0, k.val, 0] := by
  have h : (Scf.iv 0#32 1#32 k.val).toNat = k.val :=
    WordArith.toNat_iv_zero_one k.val (by have := k.isLt; have := trips_eq; omega)
  unfold k0_off1
  dsimp only [Scalar.indexCast]
  rw [h]

/-- Before trip `k` the loop carries `carried … k`. -/
theorem st_carried : ∀ k : ℕ, k ≤ 64 →
    (st_k0_t1 (F := F) 𝒱 c bd i arg1 harg1 arg2 harg2 arg3 harg3 v0 v2 (k0_pay4, k0_pay5) k).1 = carried v0 v2 k
  | 0, _ => rfl
  | k + 1, hk => by
    have e := st_k0_t1_succ (F := F) 𝒱 c bd i arg1 harg1 arg2 harg2 arg3 harg3 v0 v2 (k0_pay4, k0_pay5)
      ⟨k, by rw [trips_eq]; omega⟩
    rw [show k + 1 = (⟨k, by rw [trips_eq]; omega⟩ : Fin k0_t1_loop.trips).val + 1 from rfl, e]
    dsimp only
    rw [tripR_eq, st_carried k (by omega)]
    rfl

/-- Before trip `k` every row before `k` holds what its own trip stored, whatever view the pieces are written through
    and whatever it held before. -/
theorem st_row {κ : Kind} {sp : Space} (v : View sig κ sp S1x64x64 .f32) (f : v.ty.Contents (Elt F)) :
    ∀ k : ℕ, k ≤ 64 → ∀ (r : Fin 64) (l : Fin 64), r.val < k →
      v.read (Elt F) (v.writes (Elt F) f
          (st_k0_t1 (F := F) 𝒱 c bd i arg1 harg1 arg2 harg2 arg3 harg3 v0 v2 (k0_pay4, k0_pay5) k).2)
        (ix3 (0 : Fin 1) r l)
      = stored v0 v2 (carried v0 v2 r.val) (ix3 (0 : Fin 1) (0 : Fin 1) l)
  | 0, _, r, l, hr => absurd hr (by omega)
  | k + 1, hk, r, l, hr => by
    have e := st_k0_t1_succ (F := F) 𝒱 c bd i arg1 harg1 arg2 harg2 arg3 harg3 v0 v2 (k0_pay4, k0_pay5)
      ⟨k, by rw [trips_eq]; omega⟩
    rw [show k + 1 = (⟨k, by rw [trips_eq]; omega⟩ : Fin k0_t1_loop.trips).val + 1 from rfl, e]
    dsimp only
    rw [tripL_eq, st_carried 𝒱 c bd i arg1 harg1 arg2 harg2 arg3 harg3 v0 v2 k (by omega), List.singleton_append]
    rcases Nat.lt_or_ge r.val k with h | h
    · rw [View.read_writes_cons_unit_of_not_mem v f _ _ _ _ (off_eq _) (1 : Fin 3) (Or.inl (by exact h))]
      exact st_row v f k (by omega) r l h
    · have hrk : r.val = k := by omega
      have hx : ∀ a : Fin 3, ((ix3 (0 : Fin 1) r l : S1x64x64.Idx) a).val
          = (![0, k, 0] : Fin 3 → ℕ) a + ((ix3 (0 : Fin 1) (0 : Fin 1) l : S1x1x64.Idx) a).val := by
        intro a
        fin_cases a
        · rfl
        · exact hrk
        · exact (Nat.zero_add _).symm
      refine (View.read_writes_cons_unit_of_mem v f (k0_off1_inb ⟨k, by rw [trips_eq]; omega⟩) _ _
        (ix3 (0 : Fin 1) r l) (ix3 (0 : Fin 1) (0 : Fin 1) l : S1x1x64.Idx) (off_eq _) hx).trans ?_
      rw [hrk]

/-- The block the first region leaves at a grid point: row `r` is what trip `r` stored. -/
theorem out_row (x0 : Vec F S1x16384x128 .f32) (x1 : Vec F S1x128 .f32) (r l : Fin 64) :
    out0_A_2 c i arg1 harg1 arg2 harg2 arg3 harg3 x0 x1 (ix3 (0 : Fin 1) r l)
      = stored x0 x1 (carried x0 x1 r.val) (ix3 (0 : Fin 1) (0 : Fin 1) l) := by
  have e0 : View.readAt (Elt F) arg1.view
      (Rect.unit (s := S1x16384x128) ![0, 0, 0] ![1, 16384, 128] inb_S1x16384x128_S1x16384x128_0_0_0).toLoadRect (harg1.unread x0) = x0 := by
    rw [View.readAt_eq_ld, harg1.read_unread]
    exact View.ld_unit_zero (S := S1x16384x128) (by decide) _ x0
  have e1 : View.readAt (Elt F) arg2.view
      (Rect.unit (s := S1x128) ![0, 0] ![1, 128] inb_S1x128_S1x128_0_0).toLoadRect (harg2.unread x1) = x1 := by
    rw [View.readAt_eq_ld, harg2.read_unread]
    exact View.ld_unit_zero (S := S1x128) (by decide) _ x1
  unfold out0_A_2 kernelRun0_A
  dsimp only
  rw [e0, e1]
  rw [show Scf.trips (0#32) (Scalar.addi 0#32 64#32) 1#32 = 64 from trips_eq]
  exact st_row _ c _ i arg1 harg1 arg2 harg2 arg3 harg3 x0 x1 _ _ 64 (le_refl _) r l r.isLt

end

end Cert.Hand

end
-- ==== Proof.Column.lean ====
/-
  One trip of the first region's loop read at a column (hand-written): the masked distances and tags of the two lanes a
  column occupies, their maximum and minimum, and the row the trip stores.
-/
module

public import proofs.«01_k».proof.Proof.Trip

@[expose] public section

set_option maxRecDepth 16384

noncomputable section

namespace Cert.Hand

open Cert.KernelIdeal Cert.KernelIdeal.Gen
open Idealize.ShloMosaic Idealize.ShloMosaic.TcCoe

/-- A column's lane in the first half of a row. -/
abbrev laneLo (l : Fin 64) : Fin 128 := ⟨l.val, by omega⟩

/-- A column's lane in the second half of a row. -/
abbrev laneHi (l : Fin 64) : Fin 128 := ⟨64 + l.val, by omega⟩

/-- The distances still to be taken, and minus one in place of the others. -/
def masked (kk : FVec Ideal S16384x128 .f32) (w : IVec S16384x128 32) (m5 : FVec Ideal S1x128 .f32) (i6 : IVec S1x128 32) :
    FVec Ideal S16384x128 .f32 :=
  select (ori (cmpf .olt kk (broadcastTo S16384x128 m5 broadcasts_S1x128_S16384x128))
      (andi (cmpf .oeq kk (broadcastTo S16384x128 m5 broadcasts_S1x128_S16384x128))
        (cmpi .sgt w (broadcastTo S16384x128 i6 broadcasts_S1x128_S16384x128))))
    kk (broadcast S16384x128 (Scalar.ofBits .f32 0xBF800000#32))

/-- The tags at the distance taken and past the last tag, and the largest word in place of the others. -/
def tied (kk : FVec Ideal S16384x128 .f32) (w : IVec S16384x128 32) (mm : FVec Ideal S1x128 .f32) (th : IVec S1x128 32) :
    IVec S16384x128 32 :=
  select (andi (cmpf .oeq kk (broadcastTo S16384x128 mm broadcasts_S1x128_S16384x128))
      (cmpi .sgt w (broadcastTo S16384x128 th broadcasts_S1x128_S16384x128)))
    w (broadcast S16384x128 2147483647#32)

/-- The tag past which a trip looks: the last one taken if the distance stays, else minus one. -/
def past (mm : FVec Ideal S1x64 .f32) (m5 : FVec Ideal S1x128 .f32) (i6 : IVec S1x128 32) : IVec S1x64 32 :=
  select (cmpf .oeq mm (extractStridedSlice S1x64 ![0, 0] m5 slices_S1x128_o0_0_S1x64))
    (extractStridedSlice S1x64 ![0, 0] i6 slices_S1x128_o0_0_S1x64) (broadcast S1x64 4294967295#32)

/-- A row laid twice, side by side. -/
def twice {α : Type} (a : S1x64.Idx → α) : S1x128.Idx → α :=
  concatenate S1x128 1 [⟨S1x64, a⟩, ⟨S1x64, a⟩] concatenates_S1x64_S1x64_S1x128_d1

/-- The masked distances at a row and lane. -/
theorem masked_apply (kk : FVec Ideal S16384x128 .f32) (w : IVec S16384x128 32) (m5 : FVec Ideal S1x128 .f32)
    (i6 : IVec S1x128 32) (r : Fin 16384) (c : Fin 128) :
    masked kk w m5 i6 (ix2 r c)
      = if kk (ix2 r c) < m5 (ix2 0 c) ∨ (kk (ix2 r c) = m5 (ix2 0 c) ∧ (i6 (ix2 0 c)).toInt < (w (ix2 r c)).toInt)
          then kk (ix2 r c) else Ideal.ofBits .f32 0xBF800000#32 := by
  pointwise [masked]
  by_cases h1 : kk (ix2 r c) < m5 (ix2 0 c) <;> by_cases h2 : kk (ix2 r c) = m5 (ix2 0 c) <;>
    by_cases h3 : (i6 (ix2 0 c)).toInt < (w (ix2 r c)).toInt <;>
    simp [h1, h2, h3, Scalar.select, IntOp.ori, IntOp.andi, IntOp.cmpi, BitVec.slt]

/-- The tied tags at a row and lane. -/
theorem tied_apply (kk : FVec Ideal S16384x128 .f32) (w : IVec S16384x128 32) (mm : FVec Ideal S1x128 .f32)
    (th : IVec S1x128 32) (r : Fin 16384) (c : Fin 128) :
    tied kk w mm th (ix2 r c)
      = if kk (ix2 r c) = mm (ix2 0 c) ∧ (th (ix2 0 c)).toInt < (w (ix2 r c)).toInt
          then w (ix2 r c) else 2147483647#32 := by
  pointwise [tied]
  by_cases h2 : kk (ix2 r c) = mm (ix2 0 c) <;>
    by_cases h3 : (th (ix2 0 c)).toInt < (w (ix2 r c)).toInt <;>
    simp [h2, h3, Scalar.select, IntOp.andi, IntOp.cmpi, BitVec.slt]

/-- The threshold at a column. -/
theorem past_apply (mm : FVec Ideal S1x64 .f32) (m5 : FVec Ideal S1x128 .f32) (i6 : IVec S1x128 32) (l : Fin 64) :
    past mm m5 i6 (ix2 0 l)
      = if mm (ix2 0 l) = m5 (ix2 0 (laneLo l)) then i6 (ix2 0 (laneLo l)) else 4294967295#32 := by
  pointwise [past]

/-- A row laid twice, at the first half. -/
theorem twice_lo {α : Type} (a : S1x64.Idx → α) (l : Fin 64) : twice a (ix2 0 (laneLo l)) = a (ix2 0 l) := by
  pointwise [twice]

/-- A row laid twice, at the second half. -/
theorem twice_hi {α : Type} (a : S1x64.Idx → α) (l : Fin 64) : twice a (ix2 0 (laneHi l)) = a (ix2 0 l) := by
  pointwise [twice]

/-- A column's maximum over the rows and its two lanes. -/
theorem colMax_apply (w : FVec Ideal S128 .f32) (l : Fin 64) :
    maximumf (extractStridedSlice S1x64 ![0, 0] (shapeCast S1x128 w shapeCasts_S128_S1x128) slices_S1x128_o0_0_S1x64)
      (extractStridedSlice S1x64 ![0, 64] (shapeCast S1x128 w shapeCasts_S128_S1x128) slices_S1x128_o0_64_S1x64)
      (ix2 0 l) = max (w (ix1 (laneLo l))) (w (ix1 (laneHi l))) := by
  pointwise

/-- A column's minimum over the rows and its two lanes. -/
theorem colMin_apply (w : IVec S128 32) (l : Fin 64) :
    minsi (extractStridedSlice S1x64 ![0, 0] (shapeCast S1x128 w shapeCasts_S128_S1x128) slices_S1x128_o0_0_S1x64)
      (extractStridedSlice S1x64 ![0, 64] (shapeCast S1x128 w shapeCasts_S128_S1x128) slices_S1x128_o0_64_S1x64)
      (ix2 0 l) = IntOp.minsi (w (ix1 (laneLo l))) (w (ix1 (laneHi l))) := by
  pointwise

/-- The maximum over the rows, at a lane. -/
theorem rowMax_apply (w : FVec Ideal S16384x128 .f32) (c : Fin 128) :
    (multiReduction .maximumf [0] S128 w 0xFF800000#32 reduces_S16384x128_S128 (.inl rfl) rfl : FVec Ideal S128 .f32) (ix1 c)
      = Finset.univ.fold max (Ideal.ofBits .f32 0xFF800000#32) fun r : Fin 16384 => w (ix2 r c) := by
  pointwise

/-- The minimum over the rows, at a lane. -/
theorem rowMin_apply (w : IVec S16384x128 32) (c : Fin 128) :
    (multiReductionI .minsi [0] S128 w 2147483647#32 reduces_S16384x128_S128 rfl) (ix1 c)
      = Finset.univ.fold IntOp.minsi 2147483647#32 fun r : Fin 16384 => w (ix2 r c) := by
  pointwise

variable (v0 : Vec Ideal S1x16384x128 .f32) (v2 : Vec Ideal S1x128 .f32) (acc : Carry Ideal)

/-- The distances of all places. -/
def dists : FVec Ideal S16384x128 .f32 := k0_pay9 (k0_pay1 v0) (k0_pay2 v2)

/-- The tags of all places. -/
def tags : IVec S16384x128 32 := k0_pay10 (k0_pay1 v0) (k0_pay2 v2) k0_pay3

/-- A distance at a row and lane. -/
theorem dists_apply (r : Fin 16384) (c : Fin 128) : dists v0 v2 (ix2 r c)
    = max (v0 (ix3 0 r c) - v2 (ix2 0 c)) (-(v0 (ix3 0 r c) - v2 (ix2 0 c))) := by
  pointwise [dists, k0_pay9, k0_pay8, k0_pay1, k0_pay2]
  rfl

/-- The lane's part of a tag. -/
theorem lanePart_apply (c : Fin 128) : k0_pay3 (ix2 0 c) = if 64 ≤ c.val then 2#32 else 0#32 := by
  pointwise [k0_pay3]
  have hc : (BitVec.ofNat 32 c.val).toInt = c.val := by
    rw [BitVec.toInt_eq_toNat_cond, BitVec.toNat_ofNat]; omega
  by_cases h : 64 ≤ c.val <;>
    simp [h, Scalar.select, IntOp.cmpi, BitVec.sle, BitVec.slt, hc] <;> omega

/-- A tag at a row and lane, as a word. -/
theorem tags_apply (r : Fin 16384) (c : Fin 128) : tags v0 v2 (ix2 r c)
    = IntOp.ori (IntOp.ori (IntOp.shli ArithUnit.vector (BitVec.ofNat 32 r.val) 2#32) (if 64 ≤ c.val then 2#32 else 0#32))
      (if v0 (ix3 0 r c) - v2 (ix2 0 c) < 0 then 1#32 else 0#32) := by
  rw [← lanePart_apply]
  pointwise [tags, k0_pay10, k0_pay8, k0_pay1, k0_pay2]

/-- A trip's values at a column. -/
theorem best_apply (l : Fin 64) : best v0 v2 acc (ix2 0 l)
    = max (Finset.univ.fold max (Ideal.ofBits .f32 0xFF800000#32) fun r : Fin 16384 =>
            masked (dists v0 v2) (tags v0 v2) acc.1 acc.2 (ix2 r (laneLo l)))
        (Finset.univ.fold max (Ideal.ofBits .f32 0xFF800000#32) fun r : Fin 16384 =>
            masked (dists v0 v2) (tags v0 v2) acc.1 acc.2 (ix2 r (laneHi l))) := by
  rw [← rowMax_apply, ← rowMax_apply, ← colMax_apply]
  rfl

/-- A trip's tags at a column. -/
theorem bestTag_apply (l : Fin 64) : bestTag v0 v2 acc (ix2 0 l)
    = IntOp.minsi (Finset.univ.fold IntOp.minsi 2147483647#32 fun r : Fin 16384 =>
            tied (dists v0 v2) (tags v0 v2) (twice (best v0 v2 acc)) (twice (past (best v0 v2 acc) acc.1 acc.2)) (ix2 r (laneLo l)))
        (Finset.univ.fold IntOp.minsi 2147483647#32 fun r : Fin 16384 =>
            tied (dists v0 v2) (tags v0 v2) (twice (best v0 v2 acc)) (twice (past (best v0 v2 acc) acc.1 acc.2)) (ix2 r (laneHi l))) := by
  rw [← rowMin_apply, ← rowMin_apply, ← colMin_apply]
  rfl

/-- What a trip carries on: its values, laid twice. -/
theorem onward_fst : (onward v0 v2 acc).1 = twice (best v0 v2 acc) := rfl

/-- What a trip carries on: its tags, laid twice. -/
theorem onward_snd : (onward v0 v2 acc).2 = twice (bestTag v0 v2 acc) := rfl

/-- The row stored from a trip's values and tags, at a column. -/
theorem row_apply (mm : FVec Ideal S1x64 .f32) (t : IVec S1x64 32) (l : Fin 64) :
    k0_pay6 v2 mm t 1#32 (ix3 0 0 l)
      = v2 (ix2 0 (laneLo l)) + if t (ix2 0 l) &&& 1#32 = 1#32 then 0 - mm (ix2 0 l) else mm (ix2 0 l) := by
  pointwise [k0_pay6, k0_pay2]
  have e : IntOp.andi (t (ix2 0 l)) 1#32 = t (ix2 0 l) &&& 1#32 := rfl
  rw [e]
  generalize t (ix2 0 l) &&& 1#32 = q
  by_cases h : q = 1#32
  · rw [if_pos h, h]; simp [Scalar.select, IntOp.cmpi]
  · rw [if_neg h]
    have hb : (q == 1#32) = false := by simpa using h
    simp [Scalar.select, IntOp.cmpi, hb]

/-- The first carried values are plus infinity. -/
theorem first_fst (c : Fin 128) : (k0_pay4 : FVec Ideal S1x128 .f32) (ix2 0 c) = Ideal.ofBits .f32 0x7F800000#32 := by
  pointwise [k0_pay4]

/-- The first carried tags are minus one. -/
theorem first_snd (c : Fin 128) : k0_pay5 (ix2 0 c) = 4294967295#32 := by
  pointwise [k0_pay5]

end Cert.Hand

end
-- ==== Proof.Select.lean ====
/-
  Picking the largest entries of a finite family one at a time (hand-written, no program in it).
  A family `f` of extended reals is ranked by value, largest first, and equal values by position, lower first. A stable
  sort by value lists the positions in that order. The other way to list them is to take, again and again, the first
  position that comes strictly after the one just taken: the greatest value among those left, then the smallest tag
  among the positions left with that value.
-/
module

public import Idealize.ShloMosaic.Lib.SortFacts
public import Mathlib.Data.EReal.Operations

@[expose] public section

noncomputable section

namespace Cert.Hand

open Idealize.ShloMosaic

variable {N : ℕ}

/-- Position `a` ranks before position `b`: a larger value, or the same value at a lower position. -/
def Ahead (f : Fin N → EReal) (a b : Fin N) : Prop := f b < f a ∨ (f a = f b ∧ a < b)

/-- No position ranks before itself. -/
theorem Ahead.irrefl (f : Fin N → EReal) (a : Fin N) : ¬ Ahead f a a := by
  rintro (h | ⟨-, h⟩) <;> exact absurd h (lt_irrefl _)

/-- Of two positions that each rank before the other there are none. -/
theorem Ahead.asymm {f : Fin N → EReal} {a b : Fin N} (h : Ahead f a b) : ¬ Ahead f b a := by
  rintro (g | ⟨e, g⟩)
  · rcases h with h | ⟨e, h⟩
    · exact lt_asymm h g
    · exact absurd e g.ne
  · rcases h with h | ⟨-, h⟩
    · exact absurd e h.ne
    · exact lt_asymm h g

/-- What ranks before has at least the value. -/
theorem Ahead.le {f : Fin N → EReal} {a b : Fin N} (h : Ahead f a b) : f b ≤ f a := by
  rcases h with h | ⟨e, -⟩
  · exact h.le
  · exact e.ge

/-- The comparison a sort by value makes: `a` has the strictly larger value. -/
def gtv (f : Fin N → EReal) (a b : Fin N) : Bool := decide (f b < f a)

/-- Putting a position in front of a ranked list of higher positions, at the place the stable sort finds, keeps the
    list ranked. -/
theorem ranked_insert (f : Fin N → EReal) (a : Fin N) : ∀ l : List (Fin N), (∀ b ∈ l, a < b) →
    l.Pairwise (Ahead f) → (insertBefore (gtv f) a l).Pairwise (Ahead f)
  | [], _, _ => List.pairwise_singleton _ _
  | b :: l, hlt, hl => by
    have hb := List.pairwise_cons.mp hl
    rw [insertBefore]
    by_cases hba : f a < f b
    · rw [if_pos (by simpa [gtv] using hba)]
      refine List.pairwise_cons.mpr ⟨fun x hx => ?_,
        ranked_insert f a l (fun x hx => hlt x (List.mem_cons_of_mem _ hx)) hb.2⟩
      rcases List.mem_cons.mp ((perm_insertBefore (gtv f) a l).mem_iff.mp hx) with e | hx'
      · rw [e]; exact Or.inl hba
      · exact hb.1 x hx'
    · rw [if_neg (by simpa [gtv] using hba)]
      refine List.pairwise_cons.mpr ⟨fun x hx => ?_, hl⟩
      have hxa : f x ≤ f a := by
        rcases List.mem_cons.mp hx with e | hx'
        · rw [e]; exact not_lt.mp hba
        · exact (hb.1 x hx').le.trans (not_lt.mp hba)
      rcases hxa.lt_or_eq with h | h
      · exact Or.inl h
      · exact Or.inr ⟨h.symm, hlt x hx⟩

/-- The stable sort by value of an increasing list of positions is ranked. -/
theorem ranked_sort (f : Fin N → EReal) : ∀ l : List (Fin N), l.Pairwise (· < ·) →
    (stableSort (gtv f) l).Pairwise (Ahead f)
  | [], _ => List.Pairwise.nil
  | a :: l, h => by
    have ha := List.pairwise_cons.mp h
    rw [stableSort]
    exact ranked_insert f a _ (fun b hb => ha.1 b ((perm_stableSort (gtv f) l).mem_iff.mp hb)) (ranked_sort f l ha.2)

/-- The position the stable sort by value puts at place `k`. -/
def place (f : Fin N → EReal) (k : Fin N) : Fin N := sortedFrom (gtv f) k

/-- Earlier places hold positions that rank before those of later places. -/
theorem place_ahead (f : Fin N → EReal) {i j : Fin N} (h : i < j) : Ahead f (place f i) (place f j) := by
  have hp := List.pairwise_iff_get.mp (ranked_sort f (List.finRange N) (List.pairwise_lt_finRange N))
  exact hp (i.cast (length_sortPositions N (gtv f)).symm) (j.cast (length_sortPositions N (gtv f)).symm) h

/-- Every position has a place. -/
theorem place_surj (f : Fin N → EReal) (n : Fin N) : ∃ k, place f k = n := sortedFrom_surjective _ n

/-- Positions that rank before others hold the earlier places. -/
theorem lt_of_ahead (f : Fin N → EReal) {i j : Fin N} (h : Ahead f (place f i) (place f j)) : i < j := by
  rcases lt_trichotomy i j with g | g | g
  · exact g
  · rw [g] at h; exact absurd h (Ahead.irrefl f _)
  · exact absurd h (place_ahead f g).asymm

/-- What is left at step `k`, told from a value `mp` and a tag `ip`: the positions at places from `k` on. -/
def Left (f : Fin N → EReal) (tag : Fin N → ℤ) (mp : EReal) (ip : ℤ) (k : ℕ) : Prop :=
  ∀ j : Fin N, (f (place f j) < mp ∨ (f (place f j) = mp ∧ ip < tag (place f j))) ↔ k ≤ j.val

/-- Before the first step everything is left. -/
theorem left_zero (f : Fin N → EReal) (tag : Fin N → ℤ) (h0 : ∀ n, 0 ≤ tag n) : Left f tag ⊤ (-1) 0 := by
  intro j
  simp only [Nat.zero_le, iff_true]
  rcases lt_or_eq_of_le (le_top : f (place f j) ≤ ⊤) with h | h
  · exact Or.inl h
  · exact Or.inr ⟨h, by have := h0 (place f j); omega⟩

/-- After step `k` has taken the position at place `k`, what is left is told from its value and its tag. -/
theorem left_succ (f : Fin N → EReal) (tag : Fin N → ℤ) (ht : StrictMono tag) (k : Fin N) :
    Left f tag (f (place f k)) (tag (place f k)) (k.val + 1) := by
  intro j
  constructor
  · intro h
    have : Ahead f (place f k) (place f j) := by
      rcases h with h | ⟨e, h⟩
      · exact Or.inl h
      · exact Or.inr ⟨e.symm, ht.lt_iff_lt.mp h⟩
    exact lt_of_ahead f this
  · intro h
    rcases place_ahead f (show k < j from h) with g | ⟨e, g⟩
    · exact Or.inl g
    · exact Or.inr ⟨e.symm, ht g⟩

variable {f : Fin N → EReal} {tag : Fin N → ℤ} {mp : EReal} {ip : ℤ}

/-- The greatest value left at step `k`, read with some number below every value where nothing is left, is the value
    at place `k`. -/
theorem step_value (k : Fin N) (hL : Left f tag mp ip k.val) (lo : EReal) (hlo : ∀ n, lo ≤ f n)
    [DecidablePred fun n => f n < mp ∨ (f n = mp ∧ ip < tag n)] :
    (Finset.univ.fold max ⊥ fun n => if f n < mp ∨ (f n = mp ∧ ip < tag n) then f n else lo) = f (place f k) := by
  refine le_antisymm ((Finset.fold_max_le _).mpr ⟨bot_le, fun n _ => ?_⟩)
    ((Finset.le_fold_max _).mpr (Or.inr ⟨place f k, Finset.mem_univ _, ?_⟩))
  · obtain ⟨j, rfl⟩ := place_surj f n
    split
    · next h =>
      rcases lt_or_eq_of_le (show k ≤ j from (hL j).mp h) with g | g
      · exact (place_ahead f g).le
      · rw [g]
    · exact hlo _
  · rw [if_pos ((hL k).mpr le_rfl)]

/-- The smallest tag, among the positions whose value is that of place `k` and whose tag is above the threshold `thr`
    (the last tag if the last value was the same, `-1` otherwise), is the tag at place `k`. -/
theorem step_tag (ht : StrictMono tag) (h0 : ∀ n, 0 ≤ tag n) (k : Fin N) (hL : Left f tag mp ip k.val) (thr : ℤ)
    (h1 : f (place f k) = mp → thr = ip) (h2 : f (place f k) ≠ mp → thr = -1) :
    (∀ n, f n = f (place f k) → thr < tag n → tag (place f k) ≤ tag n) ∧ thr < tag (place f k) := by
  have hk := (hL k).mpr le_rfl
  constructor
  · intro n e h
    obtain ⟨j, rfl⟩ := place_surj f n
    have hj : f (place f j) < mp ∨ (f (place f j) = mp ∧ ip < tag (place f j)) := by
      rcases hk with g | ⟨e', g⟩
      · exact Or.inl (e ▸ g)
      · exact Or.inr ⟨e.trans e', by rwa [h1 e'] at h⟩
    rcases lt_or_eq_of_le (show k ≤ j from (hL j).mp hj) with g | g
    · rcases place_ahead f g with e' | ⟨-, e'⟩
      · exact absurd e e'.ne
      · exact (ht e').le
    · rw [g]
  · by_cases e : f (place f k) = mp
    · rw [h1 e]
      rcases hk with g | ⟨-, g⟩
      · exact absurd e g.ne
      · exact g
    · rw [h2 e]; have := h0 (place f k); omega

end Cert.Hand

end
-- ==== Proof.Invariant.lean ====
/-
  The first region's loop column by column (hand-written): before each trip the carried pair is the value and the tag at
  the place before, so that trip `k` stores the entry at place `k` of the column's order by distance.
-/
module

public import proofs.«01_k».proof.Proof.Column
public import proofs.«01_k».proof.Proof.Select

@[expose] public section

set_option maxRecDepth 16384

noncomputable section

namespace Cert.Hand

open Cert.KernelIdeal Cert.KernelIdeal.Gen
open Idealize.ShloMosaic Idealize.ShloMosaic.TcCoe

/-- The largest infinity's bits are plus infinity. -/
theorem bits_top : Ideal.ofBits .f32 0x7F800000#32 = ⊤ := by simp [Ideal.ofBits, Ideal.ieee]

/-- Minus infinity's bits are minus infinity. -/
theorem bits_bot : Ideal.ofBits .f32 0xFF800000#32 = ⊥ := by simp [Ideal.ofBits, Ideal.ieee]

/-- The filler value is not above zero. -/
theorem bits_neg_one_le : Ideal.ofBits .f32 0xBF800000#32 ≤ 0 := by
  have h : Ideal.ofBits .f32 0xBF800000#32 = ((-1 : ℝ) : EReal) := by
    simp [Ideal.ofBits, Ideal.ieee]
    rw [← EReal.coe_mul]
    norm_num
  rw [h]
  exact_mod_cast (by norm_num : (-1 : ℝ) ≤ 0)

/-- The row that holds position `n` of a column. -/
abbrev rowOf (n : Fin 32768) : Fin 16384 := ⟨n.val / 2, by omega⟩

/-- The lane that holds position `n` of column `l`. -/
abbrev laneOf (l : Fin 64) (n : Fin 32768) : Fin 128 := ⟨n.val % 2 * 64 + l.val, by omega⟩

/-- The position a row of the first half holds. -/
abbrev posLo (r : Fin 16384) : Fin 32768 := ⟨2 * r.val, by omega⟩

/-- The position a row of the second half holds. -/
abbrev posHi (r : Fin 16384) : Fin 32768 := ⟨2 * r.val + 1, by omega⟩

/-- A position is one of the first half's or one of the second half's. -/
theorem pos_cases (n : Fin 32768) : n = posLo (rowOf n) ∨ n = posHi (rowOf n) := by
  rcases Nat.mod_two_eq_zero_or_one n.val with h | h
  · left; apply Fin.ext; show n.val = 2 * (n.val / 2); omega
  · right; apply Fin.ext; show n.val = 2 * (n.val / 2) + 1; omega

theorem rowOf_lo (r : Fin 16384) : rowOf (posLo r) = r := Fin.ext (by show 2 * r.val / 2 = r.val; omega)
theorem rowOf_hi (r : Fin 16384) : rowOf (posHi r) = r := Fin.ext (by show (2 * r.val + 1) / 2 = r.val; omega)
theorem laneOf_lo (l : Fin 64) (r : Fin 16384) : laneOf l (posLo r) = laneLo l :=
  Fin.ext (by show 2 * r.val % 2 * 64 + l.val = l.val; omega)
theorem laneOf_hi (l : Fin 64) (r : Fin 16384) : laneOf l (posHi r) = laneHi l :=
  Fin.ext (by show (2 * r.val + 1) % 2 * 64 + l.val = 64 + l.val; omega)

/-- The maximum over a column's positions is that of the two halves' maxima. -/
theorem max_halves (b : EReal) (g : Fin 32768 → EReal) :
    max (Finset.univ.fold max b fun r => g (posLo r)) (Finset.univ.fold max b fun r => g (posHi r))
      = Finset.univ.fold max b g := by
  apply le_antisymm
  · refine max_le ((Finset.fold_max_le _).mpr ⟨?_, fun r _ => ?_⟩) ((Finset.fold_max_le _).mpr ⟨?_, fun r _ => ?_⟩)
    · exact (Finset.le_fold_max _).mpr (Or.inl le_rfl)
    · exact (Finset.le_fold_max _).mpr (Or.inr ⟨posLo r, Finset.mem_univ _, le_rfl⟩)
    · exact (Finset.le_fold_max _).mpr (Or.inl le_rfl)
    · exact (Finset.le_fold_max _).mpr (Or.inr ⟨posHi r, Finset.mem_univ _, le_rfl⟩)
  · refine (Finset.fold_max_le _).mpr ⟨le_max_of_le_left ((Finset.le_fold_max _).mpr (Or.inl le_rfl)), fun n _ => ?_⟩
    rcases pos_cases n with h | h
    · refine le_max_of_le_left ((Finset.le_fold_max _).mpr (Or.inr ⟨rowOf n, Finset.mem_univ _, ?_⟩))
      rw [← h]
    · refine le_max_of_le_right ((Finset.le_fold_max _).mpr (Or.inr ⟨rowOf n, Finset.mem_univ _, ?_⟩))
      rw [← h]

/-- The signed minimum of two words, as integers. -/
theorem toInt_minsi (a b : BitVec 32) : (IntOp.minsi a b).toInt = min a.toInt b.toInt := by
  simp only [IntOp.minsi, BitVec.slt]
  split <;> rename_i h <;> simp at h <;> omega

/-- The signed minimum of a column's words, as an integer. -/
theorem toInt_fold_minsi (b : BitVec 32) (g : Fin 16384 → BitVec 32) :
    (Finset.univ.fold IntOp.minsi b g).toInt = Finset.univ.fold min b.toInt fun r => (g r).toInt :=
  (Finset.fold_hom (op := IntOp.minsi) (op' := min) (m := BitVec.toInt) toInt_minsi).symm

/-- The minimum over a column's two halves, as an integer: the least of its words if it is below the start. -/
theorem min_halves (b : BitVec 32) (g : Fin 32768 → BitVec 32) (n₀ : Fin 32768) (hb : (g n₀).toInt ≤ b.toInt)
    (h : ∀ n, (g n₀).toInt ≤ (g n).toInt) :
    (IntOp.minsi (Finset.univ.fold IntOp.minsi b fun r => g (posLo r))
      (Finset.univ.fold IntOp.minsi b fun r => g (posHi r))).toInt = (g n₀).toInt := by
  rw [toInt_minsi, toInt_fold_minsi, toInt_fold_minsi]
  apply le_antisymm
  · rcases pos_cases n₀ with e | e
    · refine min_le_of_left_le ((Finset.fold_min_le _).mpr (Or.inr ⟨rowOf n₀, Finset.mem_univ _, ?_⟩))
      rw [← e]
    · refine min_le_of_right_le ((Finset.fold_min_le _).mpr (Or.inr ⟨rowOf n₀, Finset.mem_univ _, ?_⟩))
      rw [← e]
  · exact le_min ((Finset.le_fold_min _).mpr ⟨hb, fun r _ => h _⟩) ((Finset.le_fold_min _).mpr ⟨hb, fun r _ => h _⟩)

variable (v0 : Vec Ideal S1x16384x128 .f32) (v2 : Vec Ideal S1x128 .f32) (l : Fin 64)

/-- Column `l`'s differences from the hidden value. -/
def diff (n : Fin 32768) : EReal := v0 (ix3 0 (rowOf n) (laneOf l n)) - v2 (ix2 0 (laneOf l n))

/-- Column `l`'s distances. -/
def dist (n : Fin 32768) : EReal := max (diff v0 v2 l n) (-(diff v0 v2 l n))

/-- Column `l`'s tags: twice the position, plus one where the difference is negative. -/
def tag (n : Fin 32768) : ℤ := 2 * n.val + if diff v0 v2 l n < 0 then 1 else 0

/-- A distance is not negative. -/
theorem dist_nonneg (n : Fin 32768) : 0 ≤ dist v0 v2 l n := by
  unfold dist
  rcases le_total 0 (diff v0 v2 l n) with h | h
  · exact le_max_of_le_left h
  · exact le_max_of_le_right (EReal.le_neg_of_le_neg (by simpa using h))

/-- The tags go up. -/
theorem tag_strict : StrictMono (tag v0 v2 l) := by
  intro a b h
  have h' : a.val < b.val := h
  unfold tag
  split <;> split <;> omega

/-- The tags are not negative. -/
theorem tag_nonneg (n : Fin 32768) : 0 ≤ tag v0 v2 l n := by
  unfold tag
  split <;> omega

/-- The tags are below 2¹⁶. -/
theorem tag_lt (n : Fin 32768) : tag v0 v2 l n < 65536 := by
  unfold tag
  have := n.isLt
  split <;> omega

/-- A row shifted by two places and joined with a number below four. -/
theorem shifted (r : Fin 16384) (w : BitVec 32) (hw : w.toNat < 4) :
    (IntOp.shli ArithUnit.vector (BitVec.ofNat 32 r.val) 2#32 ||| w).toNat = 4 * r.val + w.toNat := by
  have e : IntOp.shli ArithUnit.vector (BitVec.ofNat 32 r.val) 2#32 = BitVec.ofNat 32 (r.val <<< 2) := by
    have h : IntOp.shli ArithUnit.vector (BitVec.ofNat 32 r.val) 2#32 = BitVec.ofNat 32 r.val <<< 2 := rfl
    rw [h]
    apply BitVec.eq_of_toNat_eq
    rw [BitVec.toNat_shiftLeft, BitVec.toNat_ofNat, BitVec.toNat_ofNat, Nat.shiftLeft_eq, Nat.shiftLeft_eq]
    have := r.isLt
    omega
  have hr := r.isLt
  rw [e, BitVec.toNat_or, BitVec.toNat_ofNat, Nat.mod_eq_of_lt (by rw [Nat.shiftLeft_eq]; omega),
    ← Nat.shiftLeft_add_eq_or_of_lt (by simpa using hw), Nat.shiftLeft_eq]
  omega

/-- The tag word at a position is its tag. -/
theorem tags_at (n : Fin 32768) : (tags v0 v2 (ix2 (rowOf n) (laneOf l n))).toInt = tag v0 v2 l n := by
  have key : (tags v0 v2 (ix2 (rowOf n) (laneOf l n))).toNat
      = 2 * n.val + if diff v0 v2 l n < 0 then 1 else 0 := by
    rw [tags_apply]
    show (((_ : BitVec 32) ||| _) ||| _).toNat = _
    rw [BitVec.or_assoc, shifted]
    · change _ + ((_ ||| if diff v0 v2 l n < 0 then _ else _ : BitVec 32)).toNat = _
      rcases Nat.mod_two_eq_zero_or_one n.val with h | h
      · have hl : ¬ 64 ≤ (laneOf l n).val := by show ¬ 64 ≤ n.val % 2 * 64 + l.val; omega
        rw [if_neg hl]
        split
        · show 4 * (n.val / 2) + 1 = _; omega
        · show 4 * (n.val / 2) + 0 = _; omega
      · have hl : 64 ≤ (laneOf l n).val := by show 64 ≤ n.val % 2 * 64 + l.val; omega
        rw [if_pos hl]
        split
        · show 4 * (n.val / 2) + 3 = _; omega
        · show 4 * (n.val / 2) + 2 = _; omega
    · split <;> split <;> decide
  rw [BitVec.toInt_eq_toNat_cond, key]
  unfold tag
  have := n.isLt
  split <;> split <;> omega

/-- The distance at a position. -/
theorem dists_at (n : Fin 32768) : dists v0 v2 (ix2 (rowOf n) (laneOf l n)) = dist v0 v2 l n := dists_apply ..

/-- What holds of the carried pair before trip `k`: both lanes of the column agree, and the pair tells the places from
    `k` on from the others. -/
structure Before (acc : Carry Ideal) (k : ℕ) : Prop where
  fst : acc.1 (ix2 0 (laneHi l)) = acc.1 (ix2 0 (laneLo l))
  snd : acc.2 (ix2 0 (laneHi l)) = acc.2 (ix2 0 (laneLo l))
  left : Left (dist v0 v2 l) (tag v0 v2 l) (acc.1 (ix2 0 (laneLo l))) (acc.2 (ix2 0 (laneLo l))).toInt k

variable {v0 v2 l}

/-- A vector of agreeing lanes, at a position. -/
theorem at_lane {α : Type} (a : S1x128.Idx → α) (h : a (ix2 0 (laneHi l)) = a (ix2 0 (laneLo l))) (n : Fin 32768) :
    a (ix2 0 (laneOf l n)) = a (ix2 0 (laneLo l)) := by
  rcases pos_cases n with e | e
  · rw [e, laneOf_lo]
  · rw [e, laneOf_hi, h]

/-- A row laid twice, at a position. -/
theorem twice_at {α : Type} (a : S1x64.Idx → α) (n : Fin 32768) : twice a (ix2 0 (laneOf l n)) = a (ix2 0 l) := by
  rw [at_lane (l := l) (twice a) (by rw [twice_lo, twice_hi]), twice_lo]

/-- Trip `k` takes the distance at place `k`. -/
theorem best_at {acc : Carry Ideal} (k : Fin 32768) (h : Before v0 v2 l acc k.val) :
    best v0 v2 acc (ix2 0 l) = dist v0 v2 l (place (dist v0 v2 l) k) := by
  rw [best_apply]
  have e := max_halves (Ideal.ofBits .f32 0xFF800000#32)
    (fun n => masked (dists v0 v2) (tags v0 v2) acc.1 acc.2 (ix2 (rowOf n) (laneOf l n)))
  simp only [rowOf_lo, rowOf_hi, laneOf_lo, laneOf_hi] at e
  rw [e, bits_bot]
  simp only [masked_apply, dists_at, tags_at, at_lane acc.1 h.fst, at_lane acc.2 h.snd]
  exact step_value k h.left _ (fun n => bits_neg_one_le.trans (dist_nonneg v0 v2 l n))

/-- Trip `k` takes the tag at place `k`. -/
theorem bestTag_at {acc : Carry Ideal} (k : Fin 32768) (h : Before v0 v2 l acc k.val) :
    (bestTag v0 v2 acc (ix2 0 l)).toInt = tag v0 v2 l (place (dist v0 v2 l) k) := by
  obtain ⟨h1, h2⟩ := step_tag (f := dist v0 v2 l) (tag := tag v0 v2 l) (tag_strict v0 v2 l) (tag_nonneg v0 v2 l) k h.left
    ((past (best v0 v2 acc) acc.1 acc.2) (ix2 0 l)).toInt
    (fun g => by rw [past_apply, if_pos (by rw [best_at k h]; exact g)])
    (fun g => by rw [past_apply, if_neg (by rw [best_at k h]; exact g)]; decide)
  have hg : ∀ n, tied (dists v0 v2) (tags v0 v2) (twice (best v0 v2 acc)) (twice (past (best v0 v2 acc) acc.1 acc.2))
      (ix2 (rowOf n) (laneOf l n))
      = if dist v0 v2 l n = dist v0 v2 l (place (dist v0 v2 l) k)
            ∧ (past (best v0 v2 acc) acc.1 acc.2 (ix2 0 l)).toInt < tag v0 v2 l n
          then tags v0 v2 (ix2 (rowOf n) (laneOf l n)) else 2147483647#32 := by
    intro n
    simp only [tied_apply, twice_at, dists_at, tags_at, best_at k h]
  have hp : (tied (dists v0 v2) (tags v0 v2) (twice (best v0 v2 acc)) (twice (past (best v0 v2 acc) acc.1 acc.2))
      (ix2 (rowOf (place (dist v0 v2 l) k)) (laneOf l (place (dist v0 v2 l) k)))).toInt
      = tag v0 v2 l (place (dist v0 v2 l) k) := by
    rw [hg, if_pos ⟨rfl, h2⟩, tags_at]
  have hbig : (2147483647#32 : BitVec 32).toInt = 2147483647 := by decide
  have e := min_halves 2147483647#32
    (fun n => tied (dists v0 v2) (tags v0 v2) (twice (best v0 v2 acc)) (twice (past (best v0 v2 acc) acc.1 acc.2))
      (ix2 (rowOf n) (laneOf l n))) (place (dist v0 v2 l) k)
    (by have := tag_lt v0 v2 l (place (dist v0 v2 l) k); simp only [hp, hbig]; omega)
    (fun n => by
      have := tag_lt v0 v2 l (place (dist v0 v2 l) k)
      simp only [hp]
      rw [hg]
      split
      · rename_i c; rw [tags_at]; exact h1 n c.1 c.2
      · rw [hbig]; omega)
  simp only [rowOf_lo, rowOf_hi, laneOf_lo, laneOf_hi] at e
  rw [bestTag_apply, e, hp]

/-- The invariant passes from one trip to the next. -/
theorem before_next {acc : Carry Ideal} (k : Fin 32768) (h : Before v0 v2 l acc k.val) :
    Before v0 v2 l (onward v0 v2 acc) (k.val + 1) where
  fst := by rw [onward_fst, twice_hi, twice_lo]
  snd := by rw [onward_snd, twice_hi, twice_lo]
  left := by
    rw [onward_fst, onward_snd, twice_lo, twice_lo, best_at k h, bestTag_at k h]
    exact left_succ _ _ (tag_strict v0 v2 l) k

/-- The invariant holds before every trip. -/
theorem before_carried : ∀ k : ℕ, k ≤ 64 → Before v0 v2 l (carried v0 v2 k) k
  | 0, _ => by
    refine ⟨?_, ?_, ?_⟩
    · exact (first_fst (laneHi l)).trans (first_fst (laneLo l)).symm
    · exact (first_snd (laneHi l)).trans (first_snd (laneLo l)).symm
    · show Left _ _ ((k0_pay4 : FVec Ideal S1x128 .f32) (ix2 0 (laneLo l))) (k0_pay5 (ix2 0 (laneLo l))).toInt 0
      rw [first_fst, first_snd, bits_top]
      exact left_zero _ _ (tag_nonneg v0 v2 l)
  | k + 1, hk => before_next ⟨k, by omega⟩ (before_carried k (by omega))

/-- A tag's lowest bit tells whether the difference is negative. -/
theorem odd_tag (w : BitVec 32) (n : Fin 32768) (h : w.toInt = tag v0 v2 l n) : (w &&& 1#32 = 1#32) ↔ diff v0 v2 l n < 0 := by
  have hw : w.toNat = 2 * n.val + if diff v0 v2 l n < 0 then 1 else 0 := by
    rw [BitVec.toInt_eq_toNat_cond] at h
    unfold tag at h
    have := n.isLt
    have := w.isLt
    by_cases g : diff v0 v2 l n < 0
    · rw [if_pos g] at h ⊢
      split at h <;> omega
    · rw [if_neg g] at h ⊢
      split at h <;> omega
  have h1 : (w &&& 1#32).toNat = w.toNat % 2 := by
    rw [BitVec.toNat_and]; exact Nat.and_one_is_mod _
  constructor
  · intro g
    by_contra hn
    rw [if_neg hn] at hw
    rw [g, hw] at h1
    have : (1#32 : BitVec 32).toNat = 1 := rfl
    omega
  · intro g
    rw [if_pos g] at hw
    apply BitVec.eq_of_toNat_eq
    rw [h1, hw]
    show _ = 1
    omega

/-- A finite number plus the difference from it. -/
theorem add_diff (x h : EReal) (ht : h ≠ ⊤) (hb : h ≠ ⊥) : h + (x - h) = x := by
  induction h with
  | bot => exact absurd rfl hb
  | top => exact absurd rfl ht
  | coe h =>
    induction x with
    | bot => simp
    | top => simp
    | coe x => norm_cast; ring

/-- Trip `k` stores the entry at place `k`, for a finite hidden value that both lanes share. -/
theorem stored_at (k : ℕ) (hk : k < 64) (h : EReal) (ht : h ≠ ⊤) (hb : h ≠ ⊥) (h1 : v2 (ix2 0 (laneLo l)) = h)
    (h2 : v2 (ix2 0 (laneHi l)) = h) :
    stored v0 v2 (carried v0 v2 k) (ix3 0 0 l)
      = v0 (ix3 0 (rowOf (place (dist v0 v2 l) ⟨k, by omega⟩)) (laneOf l (place (dist v0 v2 l) ⟨k, by omega⟩))) := by
  have hB := before_carried (v0 := v0) (v2 := v2) (l := l) k (by omega)
  have hv := best_at ⟨k, by omega⟩ hB
  have hi := bestTag_at ⟨k, by omega⟩ hB
  generalize place (dist v0 v2 l) ⟨k, by omega⟩ = n at hv hi ⊢
  unfold stored
  rw [row_apply, hv, h1]
  simp only [odd_tag _ n hi]
  have hd : diff v0 v2 l n = v0 (ix3 0 (rowOf n) (laneOf l n)) - h := by
    unfold diff
    rw [at_lane v2 (by rw [h1, h2]), h1]
  have e := add_diff (v0 (ix3 0 (rowOf n) (laneOf l n))) h ht hb
  split
  · rename_i g
    have : dist v0 v2 l n = -(diff v0 v2 l n) :=
      max_eq_right (g.le.trans (EReal.le_neg_of_le_neg (by simpa using g.le)))
    rw [this, zero_sub, neg_neg, hd, e]
  · rename_i g
    have g := not_lt.mp g
    have : dist v0 v2 l n = diff v0 v2 l n :=
      max_eq_left (le_trans (EReal.neg_le_of_neg_le (by simpa using g)) g)
    rw [this, hd, e]

end Cert.Hand

end
-- ==== Proof.Region0.lean ====
/-
  What the first region leaves in its result array (hand-written): every grid point's block, in terms of the arrays the
  region finds.
-/
module

public import proofs.«01_k».proof.Proof.Invariant

@[expose] public section

set_option maxRecDepth 16384

noncomputable section

namespace Cert.Hand

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b)) (c : Dev nD)

/-- Batch `b`'s rows of the array the first region reads. -/
def rows (x : S16x16384x128.Idx → EReal) (b : Fin 16) : Vec Ideal S1x16384x128 .f32 :=
  fun i => x (ix3 b (i 1) (i 2))

/-- The first region's result: in batch `b`, row `k` is what trip `k` stores. -/
def ranked (x : S16x16384x128.Idx → EReal) (h : S1x128.Idx → EReal) : S16x64x64.Idx → EReal :=
  fun i => stored (rows x (i 0)) h (carried (rows x (i 0)) h (i 1).val) (ix3 0 0 (i 2))

/-- Window 0's block at point `t` is batch `t`. -/
theorem index0_0 (t : Fin cfg0.N) : win0_0.index t 0 = t.val ∧ win0_0.index t 1 = 0 ∧ win0_0.index t 2 = 0 := by
  rcases fin_N0 t with rfl | rfl | rfl | rfl | rfl | rfl | rfl | rfl | rfl | rfl | rfl | rfl | rfl | rfl | rfl | rfl <;>
    decide

/-- Window 1's block is the whole array at every point. -/
theorem index0_1 (t : Fin cfg0.N) : win0_1.index t 0 = 0 ∧ win0_1.index t 1 = 0 := by
  rcases fin_N0 t with rfl | rfl | rfl | rfl | rfl | rfl | rfl | rfl | rfl | rfl | rfl | rfl | rfl | rfl | rfl | rfl <;>
    decide

/-- Window 2's block at point `t` is batch `t`. -/
theorem index0_2 (t : Fin cfg0.N) : win0_2.index t 0 = t.val ∧ win0_2.index t 1 = 0 ∧ win0_2.index t 2 = 0 := by
  rcases fin_N0 t with rfl | rfl | rfl | rfl | rfl | rfl | rfl | rfl | rfl | rfl | rfl | rfl | rfl | rfl | rfl | rfl <;>
    decide

/-- The batch of a grid point. -/
abbrev batch0 (t : Fin cfg0.N) : Fin 16 := ⟨t.val, by have := t.isLt; have : cfg0.N = 16 := N_0; omega⟩

/-- The block window 0 reads at point `t`. -/
theorem iblk0_0_eq (t : Fin cfg0.N) : (iblk0 V c 0 t : Vec Ideal S1x16384x128 .f32) = rows (V c main_v0) (batch0 t) := by
  have hi := index0_0 t
  funext j
  unfold iblk0 rows
  rw [View.read_apply]
  show V c main_v0 _ = V c main_v0 _
  congr 1
  funext a
  apply Fin.ext
  match a with
  | ⟨0, _⟩ =>
    show win0_0.index t 0 * 1 + 1 * (j 0).val = t.val
    have h0 : (j 0).val < 1 := (j 0).isLt
    rw [hi.1]; omega
  | ⟨1, _⟩ => show win0_0.index t 1 * 16384 + 1 * (j 1).val = (j 1).val; rw [hi.2.1]; omega
  | ⟨2, _⟩ => show win0_0.index t 2 * 128 + 1 * (j 2).val = (j 2).val; rw [hi.2.2]; omega

/-- The block window 1 reads at every point. -/
theorem iblk0_1_eq (t : Fin cfg0.N) : (iblk0 V c 1 t : Vec Ideal S1x128 .f32) = V c main_v2 := by
  have hi := index0_1 t
  funext j
  unfold iblk0
  rw [View.read_apply]
  show V c main_v2 _ = V c main_v2 _
  congr 1
  funext a
  apply Fin.ext
  match a with
  | ⟨0, _⟩ => show win0_1.index t 0 * 1 + 1 * (j 0).val = (j 0).val; rw [hi.1]; omega
  | ⟨1, _⟩ => show win0_1.index t 1 * 128 + 1 * (j 1).val = (j 1).val; rw [hi.2]; omega

/-- Every write-back of the first region writes its block of `ranked`. -/
theorem flushed0 (t : Fin cfg0.N) (_ : (cfg0.win 2).flush t = true) :
    (dat0 V c).flushed 2 t
      = ((cfg0.win 2).blk t).view.read (Elt Ideal) (ranked (V c main_v0) (V c main_v2) : Buf (Elt Ideal) ((c : Thread nD τ).loc main_v3)) := by
  have hi := index0_2 t
  show (cfg0.win 2).cut (grid0.coords t) ((dat0 V c).after 2 t) = _
  rw [after0_2]
  funext j
  rw [View.read_apply]
  have h0 : (j 0).val < 1 := (j 0).isLt
  obtain ⟨r, hr⟩ : ∃ r : Fin 64, r.val = (j 1).val := ⟨⟨(j 1).val, (j 1).isLt⟩, rfl⟩
  obtain ⟨l, hl⟩ : ∃ l : Fin 64, l.val = (j 2).val := ⟨⟨(j 2).val, (j 2).isLt⟩, rfl⟩
  have hj : (outsAt0 V c t) (ix3 (0 : Fin 1) r l)
      = ranked (V c main_v0) (V c main_v2) (ix3 (batch0 t) r l) := by
    unfold outsAt0
    rw [out_row, iblk0_0_eq, iblk0_1_eq]
    rfl
  refine Eq.trans ?_ (hj.trans ?_)
  · show outsAt0 V c t _ = _
    congr 1
    funext a
    apply Fin.ext
    match a with
    | ⟨0, _⟩ => show (j 0).val = 0; omega
    | ⟨1, _⟩ => exact hr.symm
    | ⟨2, _⟩ => exact hl.symm
  · show ranked (V c main_v0) (V c main_v2) _ = ranked (V c main_v0) (V c main_v2) _
    congr 1
    funext a
    apply Fin.ext
    match a with
    | ⟨0, _⟩ => show t.val = win0_2.index t 0 * 1 + 1 * (j 0).val; rw [hi.1]; omega
    | ⟨1, _⟩ => show r.val = win0_2.index t 1 * 64 + 1 * (j 1).val; rw [hi.2.1]; omega
    | ⟨2, _⟩ => show l.val = win0_2.index t 2 * 64 + 1 * (j 2).val; rw [hi.2.2]; omega

/-- The first region's result array ends as `ranked` of the arrays the region finds. -/
theorem final0 : (dat0 V c).arrAt 2 cfg0.N
    = (ranked (V c main_v0) (V c main_v2) : Buf (Elt Ideal) ((c : Thread nD τ).loc main_v3)) :=
  (dat0 V c).arrAt_eq_of_cover 2 _ (flushed0 V c) fun i => by
    have h0 : (i 0 : Nat) < 16 := (i 0).isLt
    have h1 : (i 1 : Nat) < 64 := (i 1).isLt
    have h2 : (i 2 : Nat) < 64 := (i 2).isLt
    obtain ⟨t, ht⟩ : ∃ t : Fin cfg0.N, t.val = (i 0 : Nat) := ⟨⟨(i 0 : Nat), by have : cfg0.N = 16 := N_0; omega⟩, rfl⟩
    have hi := index0_2 t
    refine ⟨t, flush0_2 t, ?_⟩
    show i ∈ ((View.whole main_v3).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [hi.1]; omega
    | ⟨1, _⟩ =>
      show win0_2.index t 1 * 64 ≤ (i 1 : Nat) ∧ (i 1 : Nat) < win0_2.index t 1 * 64 + 64
      rw [hi.2.1]; omega
    | ⟨2, _⟩ =>
      show win0_2.index t 2 * 64 ≤ (i 2 : Nat) ∧ (i 2 : Nat) < win0_2.index t 2 * 64 + 64
      rw [hi.2.2]; omega

end Cert.Hand

end
-- ==== Proof.Formula.lean ====
/-
  The mathematics both programs compute after the ranking (hand-written): a gated mix of two rows of 64 numbers, over the
  extended reals.
-/
module

public import proofs.«01_k».proof.Proof.Select
public import Idealize.ShloMosaic.Lib.Pointwise

@[expose] public section

noncomputable section

namespace Cert.Hand

open Idealize.ShloMosaic

/-- How far a column's entry lies from the hidden value. -/
def gap (x : Fin 32768 → EReal) (h : EReal) (n : Fin 32768) : EReal := max (x n - h) (-(x n - h))

/-- The column's entry that is `k`-th farthest from the hidden value, ties in the column's own order. -/
def farthest (x : Fin 32768 → EReal) (h : EReal) (k : Fin 64) : EReal := x (place (gap x h) ⟨k.val, by omega⟩)

/-- A linear map of two rows laid side by side, plus a bias. -/
def lin (p q : Fin 64 → EReal) (w : Fin 64 → Fin 128 → EReal) (b : Fin 64 → EReal) (j : Fin 64) : EReal :=
  ∑ x : Fin 64, p x * w j ⟨x.val, by omega⟩ + ∑ x : Fin 64, q x * w j ⟨64 + x.val, by omega⟩ + b j

/-- The gated mix of the input row `t` and the hidden row `h`: the reset gate over `wr`, `br`, the update gate over
    `wz`, `bz`, the candidate over `wc`, `bc`. -/
def mix (t h : Fin 64 → EReal) (wr : Fin 64 → Fin 128 → EReal) (br : Fin 64 → EReal) (wz : Fin 64 → Fin 128 → EReal)
    (bz : Fin 64 → EReal) (wc : Fin 64 → Fin 128 → EReal) (bc : Fin 64 → EReal) (j : Fin 64) : EReal :=
  Ideal.logistic (lin t h wz bz j) * Ideal.tanh (lin t (fun k => h k * Ideal.logistic (lin t h wr br k)) wc bc j)
    + (1 - Ideal.logistic (lin t h wz bz j)) * t j

/-- The input row: the ranked features `g k c` (place, column), flattened column by column, through a linear map. -/
def summary (g : Fin 64 → Fin 64 → EReal) (w : Fin 64 → Fin 4096 → EReal) (b : Fin 64 → EReal) (j : Fin 64) : EReal :=
  (∑ q : Fin 4096, g ⟨q.val % 64, by omega⟩ ⟨q.val / 64, by omega⟩ * w j q) + b j

/-- What both programs compute, from the arguments read as plain functions: at batch `b` and row `i`, whatever the
    column. -/
def answer (x : Fin 16 → Fin 32768 → Fin 64 → EReal) (h : Fin 64 → EReal) (ws : Fin 64 → Fin 4096 → EReal)
    (bs : Fin 64 → EReal) (wr : Fin 64 → Fin 128 → EReal) (br : Fin 64 → EReal) (wz : Fin 64 → Fin 128 → EReal)
    (bz : Fin 64 → EReal) (wc : Fin 64 → Fin 128 → EReal) (bc : Fin 64 → EReal) (b : Fin 16) (i : Fin 64) : EReal :=
  mix (summary (fun k l => farthest (fun n => x b n l) (h l) k) ws bs) h wr br wz bz wc bc i

end Cert.Hand

end
-- ==== Proof.Head.lean ====
/-
  The second region's block as a formula of the blocks it reads (hand-written).
-/
module

public import proofs.«01_k».proof.Proof.Gen.KernelIdeal.Frame
public import proofs.«01_k».proof.Proof.Formula
public import Idealize.ShloMosaic.Lib.Pipeline.Value
public import Idealize.ShloMosaic.Lib.Pointwise

@[expose] public section

set_option maxRecDepth 16384

noncomputable section

namespace Cert.Hand

open Cert.KernelIdeal Cert.KernelIdeal.Gen
open Idealize.ShloMosaic Idealize.ShloMosaic.TcCoe

variable (v0 : Vec Ideal S1x1x4096 .f32) (v2 : Vec Ideal S4096x64 .f32) (v5 : Vec Ideal S1x64 .f32)
  (v8 : Vec Ideal S1x1x64 .f32) (v11 : Vec Ideal S128x64 .f32) (v14 : Vec Ideal S1x64 .f32)
  (v18 : Vec Ideal S128x64 .f32) (v21 : Vec Ideal S1x64 .f32) (v27 : Vec Ideal S128x64 .f32) (v30 : Vec Ideal S1x64 .f32)

/-- The input row at a column. -/
theorem input_apply (j : Fin 64) :
    k1_pay2 v0 v2 v5 (ix2 0 j) = (∑ k : Fin 4096, v0 (ix3 0 0 k) * v2 (ix2 k j)) + v5 (ix2 0 j) := by
  pointwise [k1_pay2]

/-- The update gate at a column. -/
theorem update_apply (j : Fin 64) :
    k1_pay5 v0 v2 v5 v8 v18 v21 (ix2 0 j)
      = Ideal.logistic (lin (fun k => k1_pay2 v0 v2 v5 (ix2 0 k)) (fun k => v8 (ix3 0 0 k)) (fun j k => v18 (ix2 k j))
          (fun j => v21 (ix2 0 j)) j) := by
  unfold k1_pay5 k1_pay4 lin
  generalize k1_pay2 v0 v2 v5 = u
  pointwise [k1_pay3]

/-- The candidate before its last function, at a column. -/
theorem candidate_apply (j : Fin 64) :
    k1_pay6 v0 v2 v5 v8 v11 v14 v27 v30 (ix2 0 j)
      = lin (fun k => k1_pay2 v0 v2 v5 (ix2 0 k))
          (fun k => v8 (ix3 0 0 k) * Ideal.logistic (lin (fun k => k1_pay2 v0 v2 v5 (ix2 0 k)) (fun k => v8 (ix3 0 0 k))
            (fun j k => v11 (ix2 k j)) (fun j => v14 (ix2 0 j)) k))
          (fun j k => v27 (ix2 k j)) (fun j => v30 (ix2 0 j)) j := by
  unfold k1_pay6
  have hz : ∀ k : Fin 64, (logistic (addf (matmul dot_S1x128_S128x64_S1x64_1_0_0_1_n_n none (k1_pay4 v0 v2 v5 v8)
      (shapeCast S128x64 v11 shapeCasts_S128x64_S128x64) (constant S1x64 .f32 0x00000000#32))
      (shapeCast S1x64 v14 shapeCasts_S1x64_S1x64)) : FVec Ideal S1x64 .f32) (ix2 0 k)
      = Ideal.logistic (lin (fun k => k1_pay2 v0 v2 v5 (ix2 0 k)) (fun k => v8 (ix3 0 0 k))
          (fun j k => v11 (ix2 k j)) (fun j => v14 (ix2 0 j)) k) := update_apply v0 v2 v5 v8 v11 v14
  generalize (logistic _ : FVec Ideal S1x64 .f32) = z at hz ⊢
  simp only [← hz]
  unfold lin
  generalize k1_pay2 v0 v2 v5 = u
  pointwise [k1_pay3]

/-- A sum against a row of the identity matrix picks that row's entry. -/
theorem pick (i : Fin 64) (f : Fin 64 → EReal) :
    (∑ x : Fin 64, FloatOps.sitofp (F := Ideal) FTy.f32
      (BitVec.setWidth 32 (IntOp.cmpi CmpIPredicate.eq (BitVec.ofNat 32 i.val) (BitVec.ofNat 32 x.val))) * f x) = f i := by
  rw [Finset.sum_eq_single i]
  · have h : FloatOps.sitofp (F := Ideal) FTy.f32
        (BitVec.setWidth 32 (IntOp.cmpi CmpIPredicate.eq (BitVec.ofNat 32 i.val) (BitVec.ofNat 32 i.val))) = (1 : EReal) := by
      simp [IntOp.cmpi, FloatOps.sitofp]
    rw [h, one_mul]
  · intro x _ hx
    have hb : (BitVec.ofNat 32 i.val == BitVec.ofNat 32 x.val) = false := by
      rw [beq_eq_false_iff_ne]
      intro e
      apply hx
      apply Fin.ext
      have e' := congrArg BitVec.toNat e
      rw [BitVec.toNat_ofNat, BitVec.toNat_ofNat] at e'
      omega
    have h : FloatOps.sitofp (F := Ideal) FTy.f32
        (BitVec.setWidth 32 (IntOp.cmpi CmpIPredicate.eq (BitVec.ofNat 32 i.val) (BitVec.ofNat 32 x.val))) = (0 : EReal) := by
      simp [IntOp.cmpi, FloatOps.sitofp, hb]
    rw [h, zero_mul]
  · intro h; exact absurd (Finset.mem_univ i) h

/-- The stored block from the input row, the update gate and the candidate. -/
theorem block_apply (t z k : FVec Ideal S1x64 .f32) (i : Fin 64) (n : Fin 32768) :
    k1_pay1 t z k (ix3 0 i n) = z (ix2 0 i) * Ideal.tanh (k (ix2 0 i)) + (1 - z (ix2 0 i)) * t (ix2 0 i) := by
  rw [← pick i (fun x => z (ix2 0 x) * Ideal.tanh (k (ix2 0 x)) + (1 - z (ix2 0 x)) * t (ix2 0 x))]
  pointwise [k1_pay1]

/-- The block the second region leaves, at a row and column. -/
theorem out1_apply (i : Fin 64) (n : Fin 32768) :
    out1_10 v0 v2 v5 v8 v11 v14 v18 v21 v27 v30 (ix3 0 i n)
      = mix (fun j => (∑ k : Fin 4096, v0 (ix3 0 0 k) * v2 (ix2 k j)) + v5 (ix2 0 j)) (fun k => v8 (ix3 0 0 k))
          (fun j k => v11 (ix2 k j)) (fun j => v14 (ix2 0 j)) (fun j k => v18 (ix2 k j)) (fun j => v21 (ix2 0 j))
          (fun j k => v27 (ix2 k j)) (fun j => v30 (ix2 0 j)) i := by
  unfold out1_10
  rw [View.canon_unit_zero (S := S1x64x32768) (by decide)]
  rw [View.ld_unit_zero (S := S1x1x4096) (by decide), View.ld_unit_zero (S := S4096x64) (by decide),
    View.ld_unit_zero (S := S1x64) (by decide), View.ld_unit_zero (S := S1x1x64) (by decide),
    View.ld_unit_zero (S := S128x64) (by decide), View.ld_unit_zero (S := S1x64) (by decide),
    View.ld_unit_zero (S := S128x64) (by decide), View.ld_unit_zero (S := S1x64) (by decide),
    View.ld_unit_zero (S := S128x64) (by decide), View.ld_unit_zero (S := S1x64) (by decide)]
  rw [block_apply, update_apply, candidate_apply]
  simp only [input_apply]
  rfl

end Cert.Hand

end
-- ==== Proof.Region1.lean ====
/-
  What the second region leaves in its result array (hand-written): every grid point's block, in terms of the arrays the
  region finds.
-/
module

public import proofs.«01_k».proof.Proof.Head

@[expose] public section

set_option maxRecDepth 16384

noncomputable section

namespace Cert.Hand

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b)) (c : Dev nD)

/-- The second region's result from the arrays it reads: in batch `b`, row `i` is the gated mix, whatever the column. -/
def headed (f : S16x1x4096.Idx → EReal) (w : S4096x64.Idx → EReal) (b : S1x64.Idx → EReal) (h : S16x1x64.Idx → EReal)
    (wr : S128x64.Idx → EReal) (br : S1x64.Idx → EReal) (wz : S128x64.Idx → EReal) (bz : S1x64.Idx → EReal)
    (wc : S128x64.Idx → EReal) (bc : S1x64.Idx → EReal) : S16x64x32768.Idx → EReal :=
  fun i => mix (fun j => (∑ k : Fin 4096, f (ix3 (i 0) 0 k) * w (ix2 k j)) + b (ix2 0 j)) (fun k => h (ix3 (i 0) 0 k))
    (fun j k => wr (ix2 k j)) (fun j => br (ix2 0 j)) (fun j k => wz (ix2 k j)) (fun j => bz (ix2 0 j))
    (fun j k => wc (ix2 k j)) (fun j => bc (ix2 0 j)) (i 1)

/-- The batch of a grid point. -/
abbrev batch1 (t : Fin cfg1.N) : Fin 16 := ⟨t.val, by have := t.isLt; have : cfg1.N = 16 := N_1; omega⟩

/-- Window 0's block at point `t` is batch `t`. -/
theorem index1_0 (t : Fin cfg1.N) : win1_0.index t 0 = t.val ∧ win1_0.index t 1 = 0 ∧ win1_0.index t 2 = 0 := by
  rcases fin_N1 t with rfl | rfl | rfl | rfl | rfl | rfl | rfl | rfl | rfl | rfl | rfl | rfl | rfl | rfl | rfl | rfl <;>
    decide

/-- Window 1's block is the whole array at every point. -/
theorem index1_1 (t : Fin cfg1.N) : win1_1.index t 0 = 0 ∧ win1_1.index t 1 = 0 := by
  rcases fin_N1 t with rfl | rfl | rfl | rfl | rfl | rfl | rfl | rfl | rfl | rfl | rfl | rfl | rfl | rfl | rfl | rfl <;>
    decide

/-- Window 2's block is the whole array at every point. -/
theorem index1_2 (t : Fin cfg1.N) : win1_2.index t 0 = 0 ∧ win1_2.index t 1 = 0 := by
  rcases fin_N1 t with rfl | rfl | rfl | rfl | rfl | rfl | rfl | rfl | rfl | rfl | rfl | rfl | rfl | rfl | rfl | rfl <;>
    decide

/-- Window 3's block at point `t` is batch `t`. -/
theorem index1_3 (t : Fin cfg1.N) : win1_3.index t 0 = t.val ∧ win1_3.index t 1 = 0 ∧ win1_3.index t 2 = 0 := by
  rcases fin_N1 t with rfl | rfl | rfl | rfl | rfl | rfl | rfl | rfl | rfl | rfl | rfl | rfl | rfl | rfl | rfl | rfl <;>
    decide

/-- Window 4's block is the whole array at every point. -/
theorem index1_4 (t : Fin cfg1.N) : win1_4.index t 0 = 0 ∧ win1_4.index t 1 = 0 := by
  rcases fin_N1 t with rfl | rfl | rfl | rfl | rfl | rfl | rfl | rfl | rfl | rfl | rfl | rfl | rfl | rfl | rfl | rfl <;>
    decide

/-- Window 5's block is the whole array at every point. -/
theorem index1_5 (t : Fin cfg1.N) : win1_5.index t 0 = 0 ∧ win1_5.index t 1 = 0 := by
  rcases fin_N1 t with rfl | rfl | rfl | rfl | rfl | rfl | rfl | rfl | rfl | rfl | rfl | rfl | rfl | rfl | rfl | rfl <;>
    decide

/-- Window 6's block is the whole array at every point. -/
theorem index1_6 (t : Fin cfg1.N) : win1_6.index t 0 = 0 ∧ win1_6.index t 1 = 0 := by
  rcases fin_N1 t with rfl | rfl | rfl | rfl | rfl | rfl | rfl | rfl | rfl | rfl | rfl | rfl | rfl | rfl | rfl | rfl <;>
    decide

/-- Window 7's block is the whole array at every point. -/
theorem index1_7 (t : Fin cfg1.N) : win1_7.index t 0 = 0 ∧ win1_7.index t 1 = 0 := by
  rcases fin_N1 t with rfl | rfl | rfl | rfl | rfl | rfl | rfl | rfl | rfl | rfl | rfl | rfl | rfl | rfl | rfl | rfl <;>
    decide

/-- Window 8's block is the whole array at every point. -/
theorem index1_8 (t : Fin cfg1.N) : win1_8.index t 0 = 0 ∧ win1_8.index t 1 = 0 := by
  rcases fin_N1 t with rfl | rfl | rfl | rfl | rfl | rfl | rfl | rfl | rfl | rfl | rfl | rfl | rfl | rfl | rfl | rfl <;>
    decide

/-- Window 9's block is the whole array at every point. -/
theorem index1_9 (t : Fin cfg1.N) : win1_9.index t 0 = 0 ∧ win1_9.index t 1 = 0 := by
  rcases fin_N1 t with rfl | rfl | rfl | rfl | rfl | rfl | rfl | rfl | rfl | rfl | rfl | rfl | rfl | rfl | rfl | rfl <;>
    decide

/-- Window 10's block at point `t` is batch `t`. -/
theorem index1_10 (t : Fin cfg1.N) : win1_10.index t 0 = t.val ∧ win1_10.index t 1 = 0 ∧ win1_10.index t 2 = 0 := by
  rcases fin_N1 t with rfl | rfl | rfl | rfl | rfl | rfl | rfl | rfl | rfl | rfl | rfl | rfl | rfl | rfl | rfl | rfl <;>
    decide

/-- The block window 0 reads at point `t`. -/
theorem iblk1_0_eq (t : Fin cfg1.N) (k : Fin 4096) :
    (iblk1 V c 0 t : Vec Ideal S1x1x4096 .f32) (ix3 0 0 k) = V c main_v5 (ix3 (batch1 t) 0 k) := by
  have hi := index1_0 t
  unfold iblk1
  rw [View.read_apply]
  show V c main_v5 _ = V c main_v5 _
  congr 1
  funext a
  apply Fin.ext
  match a with
  | ⟨0, _⟩ => show win1_0.index t 0 * 1 + 1 * 0 = t.val; rw [hi.1]; omega
  | ⟨1, _⟩ => show win1_0.index t 1 * 1 + 1 * 0 = 0; rw [hi.2.1]
  | ⟨2, _⟩ => show win1_0.index t 2 * 4096 + 1 * k.val = k.val; rw [hi.2.2]; omega

/-- The block window 1 reads at every point. -/
theorem iblk1_1_eq (t : Fin cfg1.N) : (iblk1 V c 1 t : Vec Ideal S4096x64 .f32) = V c main_v8 := by
  have hi := index1_1 t
  funext j
  unfold iblk1
  rw [View.read_apply]
  show V c main_v8 _ = V c main_v8 _
  congr 1
  funext a
  apply Fin.ext
  match a with
  | ⟨0, _⟩ => show win1_1.index t 0 * 4096 + 1 * (j 0).val = (j 0).val; rw [hi.1]; omega
  | ⟨1, _⟩ => show win1_1.index t 1 * 64 + 1 * (j 1).val = (j 1).val; rw [hi.2]; omega

/-- The block window 2 reads at every point. -/
theorem iblk1_2_eq (t : Fin cfg1.N) : (iblk1 V c 2 t : Vec Ideal S1x64 .f32) = V c main_v9 := by
  have hi := index1_2 t
  funext j
  unfold iblk1
  rw [View.read_apply]
  show V c main_v9 _ = V c main_v9 _
  congr 1
  funext a
  apply Fin.ext
  match a with
  | ⟨0, _⟩ => show win1_2.index t 0 * 1 + 1 * (j 0).val = (j 0).val; rw [hi.1]; omega
  | ⟨1, _⟩ => show win1_2.index t 1 * 64 + 1 * (j 1).val = (j 1).val; rw [hi.2]; omega

/-- The block window 3 reads at point `t`. -/
theorem iblk1_3_eq (t : Fin cfg1.N) (k : Fin 64) :
    (iblk1 V c 3 t : Vec Ideal S1x1x64 .f32) (ix3 0 0 k) = V c main_v7 (ix3 (batch1 t) 0 k) := by
  have hi := index1_3 t
  unfold iblk1
  rw [View.read_apply]
  show V c main_v7 _ = V c main_v7 _
  congr 1
  funext a
  apply Fin.ext
  match a with
  | ⟨0, _⟩ => show win1_3.index t 0 * 1 + 1 * 0 = t.val; rw [hi.1]; omega
  | ⟨1, _⟩ => show win1_3.index t 1 * 1 + 1 * 0 = 0; rw [hi.2.1]
  | ⟨2, _⟩ => show win1_3.index t 2 * 64 + 1 * k.val = k.val; rw [hi.2.2]; omega

/-- The block window 4 reads at every point. -/
theorem iblk1_4_eq (t : Fin cfg1.N) : (iblk1 V c 4 t : Vec Ideal S128x64 .f32) = V c main_v10 := by
  have hi := index1_4 t
  funext j
  unfold iblk1
  rw [View.read_apply]
  show V c main_v10 _ = V c main_v10 _
  congr 1
  funext a
  apply Fin.ext
  match a with
  | ⟨0, _⟩ => show win1_4.index t 0 * 128 + 1 * (j 0).val = (j 0).val; rw [hi.1]; omega
  | ⟨1, _⟩ => show win1_4.index t 1 * 64 + 1 * (j 1).val = (j 1).val; rw [hi.2]; omega

/-- The block window 5 reads at every point. -/
theorem iblk1_5_eq (t : Fin cfg1.N) : (iblk1 V c 5 t : Vec Ideal S1x64 .f32) = V c main_v11 := by
  have hi := index1_5 t
  funext j
  unfold iblk1
  rw [View.read_apply]
  show V c main_v11 _ = V c main_v11 _
  congr 1
  funext a
  apply Fin.ext
  match a with
  | ⟨0, _⟩ => show win1_5.index t 0 * 1 + 1 * (j 0).val = (j 0).val; rw [hi.1]; omega
  | ⟨1, _⟩ => show win1_5.index t 1 * 64 + 1 * (j 1).val = (j 1).val; rw [hi.2]; omega

/-- The block window 6 reads at every point. -/
theorem iblk1_6_eq (t : Fin cfg1.N) : (iblk1 V c 6 t : Vec Ideal S128x64 .f32) = V c main_v12 := by
  have hi := index1_6 t
  funext j
  unfold iblk1
  rw [View.read_apply]
  show V c main_v12 _ = V c main_v12 _
  congr 1
  funext a
  apply Fin.ext
  match a with
  | ⟨0, _⟩ => show win1_6.index t 0 * 128 + 1 * (j 0).val = (j 0).val; rw [hi.1]; omega
  | ⟨1, _⟩ => show win1_6.index t 1 * 64 + 1 * (j 1).val = (j 1).val; rw [hi.2]; omega

/-- The block window 7 reads at every point. -/
theorem iblk1_7_eq (t : Fin cfg1.N) : (iblk1 V c 7 t : Vec Ideal S1x64 .f32) = V c main_v13 := by
  have hi := index1_7 t
  funext j
  unfold iblk1
  rw [View.read_apply]
  show V c main_v13 _ = V c main_v13 _
  congr 1
  funext a
  apply Fin.ext
  match a with
  | ⟨0, _⟩ => show win1_7.index t 0 * 1 + 1 * (j 0).val = (j 0).val; rw [hi.1]; omega
  | ⟨1, _⟩ => show win1_7.index t 1 * 64 + 1 * (j 1).val = (j 1).val; rw [hi.2]; omega

/-- The block window 8 reads at every point. -/
theorem iblk1_8_eq (t : Fin cfg1.N) : (iblk1 V c 8 t : Vec Ideal S128x64 .f32) = V c main_v14 := by
  have hi := index1_8 t
  funext j
  unfold iblk1
  rw [View.read_apply]
  show V c main_v14 _ = V c main_v14 _
  congr 1
  funext a
  apply Fin.ext
  match a with
  | ⟨0, _⟩ => show win1_8.index t 0 * 128 + 1 * (j 0).val = (j 0).val; rw [hi.1]; omega
  | ⟨1, _⟩ => show win1_8.index t 1 * 64 + 1 * (j 1).val = (j 1).val; rw [hi.2]; omega

/-- The block window 9 reads at every point. -/
theorem iblk1_9_eq (t : Fin cfg1.N) : (iblk1 V c 9 t : Vec Ideal S1x64 .f32) = V c main_v15 := by
  have hi := index1_9 t
  funext j
  unfold iblk1
  rw [View.read_apply]
  show V c main_v15 _ = V c main_v15 _
  congr 1
  funext a
  apply Fin.ext
  match a with
  | ⟨0, _⟩ => show win1_9.index t 0 * 1 + 1 * (j 0).val = (j 0).val; rw [hi.1]; omega
  | ⟨1, _⟩ => show win1_9.index t 1 * 64 + 1 * (j 1).val = (j 1).val; rw [hi.2]; omega

/-- The second region's result array, of the arrays the region finds. -/
def headedOf : S16x64x32768.Idx → EReal :=
  headed (V c main_v5) (V c main_v8) (V c main_v9) (V c main_v7) (V c main_v10) (V c main_v11) (V c main_v12)
        (V c main_v13) (V c main_v14) (V c main_v15)

/-- Every write-back of the second region writes its block of `headedOf`. -/
theorem flushed1 (t : Fin cfg1.N) (_ : (cfg1.win 10).flush t = true) :
    (dat1 V c).flushed 10 t
      = ((cfg1.win 10).blk t).view.read (Elt Ideal) (headedOf V c : Buf (Elt Ideal) ((c : Thread nD τ).loc main_v16)) := by
  have hi := index1_10 t
  show (cfg1.win 10).cut (grid1.coords t) ((dat1 V c).after 10 t) = _
  rw [after1_10]
  have hj : ∀ (r : Fin 64) (l : Fin 32768), (out1_10 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) : Vec Ideal S1x64x32768 .f32) (ix3 (0 : Fin 1) r l)
      = headedOf V c (ix3 (batch1 t) r l) := by
    intro r l
    rw [out1_apply, iblk1_1_eq, iblk1_2_eq, iblk1_4_eq, iblk1_5_eq, iblk1_6_eq, iblk1_7_eq, iblk1_8_eq, iblk1_9_eq]
    simp only [iblk1_0_eq, iblk1_3_eq]
    rfl
  generalize out1_10 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) = o at hj ⊢
  generalize headedOf V c = G at hj ⊢
  funext j
  rw [View.read_apply]
  have h0 : (j 0).val < 1 := (j 0).isLt
  obtain ⟨r, hr⟩ : ∃ r : Fin 64, r.val = (j 1).val := ⟨⟨(j 1).val, (j 1).isLt⟩, rfl⟩
  obtain ⟨l, hl⟩ : ∃ l : Fin 32768, l.val = (j 2).val := ⟨⟨(j 2).val, (j 2).isLt⟩, rfl⟩
  refine Eq.trans ?_ ((hj r l).trans ?_)
  · refine congrArg o (funext fun a => Fin.ext ?_)
    match a with
    | ⟨0, _⟩ => show (j 0).val = 0; omega
    | ⟨1, _⟩ => exact hr.symm
    | ⟨2, _⟩ => exact hl.symm
  · refine congrArg G (funext fun a => Fin.ext ?_)
    match a with
    | ⟨0, _⟩ => show t.val = win1_10.index t 0 * 1 + 1 * (j 0).val; rw [hi.1]; omega
    | ⟨1, _⟩ => show r.val = win1_10.index t 1 * 64 + 1 * (j 1).val; rw [hi.2.1]; omega
    | ⟨2, _⟩ => show l.val = win1_10.index t 2 * 32768 + 1 * (j 2).val; rw [hi.2.2]; omega

/-- The second region's result array ends as `headedOf` of the arrays the region finds. -/
theorem final1 : (dat1 V c).arrAt 10 cfg1.N = (headedOf V c : Buf (Elt Ideal) ((c : Thread nD τ).loc main_v16)) :=
  (dat1 V c).arrAt_eq_of_cover 10 _ (flushed1 V c) fun i => by
    have h0 : (i 0 : Nat) < 16 := (i 0).isLt
    have h1 : (i 1 : Nat) < 64 := (i 1).isLt
    have h2 : (i 2 : Nat) < 32768 := (i 2).isLt
    obtain ⟨t, ht⟩ : ∃ t : Fin cfg1.N, t.val = (i 0 : Nat) :=
      ⟨⟨(i 0 : Nat), by have : cfg1.N = 16 := N_1; omega⟩, rfl⟩
    have hi := index1_10 t
    refine ⟨t, flush1_10 t, ?_⟩
    show i ∈ ((View.whole main_v16).slice (win1_10.rect t)).set
    rw [View.set_slice_whole, Rect.mem_set_unit]
    intro a
    match a with
    | ⟨0, _⟩ =>
      show win1_10.index t 0 * 1 ≤ (i 0 : Nat) ∧ (i 0 : Nat) < win1_10.index t 0 * 1 + 1
      rw [hi.1]; omega
    | ⟨1, _⟩ =>
      show win1_10.index t 1 * 64 ≤ (i 1 : Nat) ∧ (i 1 : Nat) < win1_10.index t 1 * 64 + 64
      rw [hi.2.1]; omega
    | ⟨2, _⟩ =>
      show win1_10.index t 2 * 32768 ≤ (i 2 : Nat) ∧ (i 2 : Nat) < win1_10.index t 2 * 32768 + 32768
      rw [hi.2.2]; omega

end Cert.Hand

end
-- ==== Proof.Result.lean ====
/-
  The kernel program's result as a formula of its arguments (hand-written): the arrays between the regions read at an
  index, and the two regions put together.
-/
module

public import proofs.«01_k».proof.Proof.Region0
public import proofs.«01_k».proof.Proof.Region1
public import Idealize.ShloMosaic.Lib.StableHlo.ReadAt

@[expose] public section

set_option maxRecDepth 16384

noncomputable section

namespace Cert.Hand

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

/-- The features with two positions to a row. -/
theorem paired_apply (x : S16x32768x64.Idx → EReal) (b : Fin 16) (r : Fin 16384) (k : Fin 128) :
    shapeCast S16x16384x128 x shapeCasts_S16x32768x64_S16x16384x128 (ix3 b r k)
      = x (ix3 b ⟨r.val * 2 + k.val / 64, by omega⟩ ⟨k.val % 64, by omega⟩) := by
  pointwise

/-- The array of features the first region reads. -/
theorem V1_v0 : (V1 m ρ c main_v0 : S16x16384x128.Idx → EReal)
    = shapeCast S16x16384x128 (m ((c : Thread nD τ).loc main_arg0) : S16x32768x64.Idx → EReal)
        shapeCasts_S16x32768x64_S16x16384x128 := by
  show StableHlo.after hostOps0 (W0 m ρ c) (Proc.devRef .tc main_v0) = _
  after_reads_simp
  rfl

/-- The hidden row as the program keeps it. -/
theorem V1_v1 (j : Fin 64) : (V1 m ρ c main_v1 : S1x64.Idx → EReal) (ix2 0 j)
    = (m ((c : Thread nD τ).loc main_arg1) : S64x1.Idx → EReal) (ix2 j 0) := by
  show (StableHlo.after hostOps0 (W0 m ρ c) (Proc.devRef .tc main_v1) : S1x64.Idx → EReal) (ix2 0 j) = _
  after_reads_at

/-- The hidden row laid twice, at the first half. -/
theorem V1_v2_lo (l : Fin 64) : (V1 m ρ c main_v2 : S1x128.Idx → EReal) (ix2 0 (laneLo l))
    = (m ((c : Thread nD τ).loc main_arg1) : S64x1.Idx → EReal) (ix2 l 0) := by
  show (StableHlo.after hostOps0 (W0 m ρ c) (Proc.devRef .tc main_v2) : S1x128.Idx → EReal) (ix2 0 (laneLo l)) = _
  after_reads_at

/-- The hidden row laid twice, at the second half. -/
theorem V1_v2_hi (l : Fin 64) : (V1 m ρ c main_v2 : S1x128.Idx → EReal) (ix2 0 (laneHi l))
    = (m ((c : Thread nD τ).loc main_arg1) : S64x1.Idx → EReal) (ix2 l 0) := by
  show (StableHlo.after hostOps0 (W0 m ρ c) (Proc.devRef .tc main_v2) : S1x128.Idx → EReal) (ix2 0 (laneHi l)) = _
  after_reads_at

/-- The ranked features flattened column by column. -/
theorem V3_v5 (b : Fin 16) (q : Fin 4096) : (V3 m ρ c main_v5 : S16x1x4096.Idx → EReal) (ix3 b 0 q)
    = (W2 m ρ c (Proc.devRef .tc main_v3) : S16x64x64.Idx → EReal) (ix3 b ⟨q.val % 64, by omega⟩ ⟨q.val / 64, by omega⟩) := by
  show (StableHlo.after hostOps1 (W2 m ρ c) (Proc.devRef .tc main_v5) : S16x1x4096.Idx → EReal) (ix3 b 0 q) = _
  generalize W2 m ρ c = W
  after_reads_at

/-- The hidden row of every batch. -/
theorem V3_v7 (b : Fin 16) (j : Fin 64) : (V3 m ρ c main_v7 : S16x1x64.Idx → EReal) (ix3 b 0 j)
    = (m ((c : Thread nD τ).loc main_arg1) : S64x1.Idx → EReal) (ix2 j 0) := by
  rw [← V1_v1 m ρ c j]
  show (StableHlo.after hostOps1 (W2 m ρ c) (Proc.devRef .tc main_v7) : S16x1x64.Idx → EReal) (ix3 b 0 j) = _
  have e : (W2 m ρ c (Proc.devRef .tc main_v1) : S1x64.Idx → EReal) = V1 m ρ c main_v1 := W2_of m ρ c main_v1 (by decide +kernel)
  rw [← e]
  generalize W2 m ρ c = W
  after_reads_at

/-- A weight matrix turned. -/
theorem V3_v8 (k : Fin 4096) (j : Fin 64) : (V3 m ρ c main_v8 : S4096x64.Idx → EReal) (ix2 k j)
    = (m ((c : Thread nD τ).loc main_arg2) : S64x4096.Idx → EReal) (ix2 j k) := by
  rw [← W2_args m ρ c main_arg2 (by decide)]
  show (StableHlo.after hostOps1 (W2 m ρ c) (Proc.devRef .tc main_v8) : S4096x64.Idx → EReal) (ix2 k j) = _
  generalize W2 m ρ c = W
  after_reads_at

/-- A weight matrix turned. -/
theorem V3_v10 (k : Fin 128) (j : Fin 64) : (V3 m ρ c main_v10 : S128x64.Idx → EReal) (ix2 k j)
    = (m ((c : Thread nD τ).loc main_arg4) : S64x128.Idx → EReal) (ix2 j k) := by
  rw [← W2_args m ρ c main_arg4 (by decide)]
  show (StableHlo.after hostOps1 (W2 m ρ c) (Proc.devRef .tc main_v10) : S128x64.Idx → EReal) (ix2 k j) = _
  generalize W2 m ρ c = W
  after_reads_at

/-- A weight matrix turned. -/
theorem V3_v12 (k : Fin 128) (j : Fin 64) : (V3 m ρ c main_v12 : S128x64.Idx → EReal) (ix2 k j)
    = (m ((c : Thread nD τ).loc main_arg6) : S64x128.Idx → EReal) (ix2 j k) := by
  rw [← W2_args m ρ c main_arg6 (by decide)]
  show (StableHlo.after hostOps1 (W2 m ρ c) (Proc.devRef .tc main_v12) : S128x64.Idx → EReal) (ix2 k j) = _
  generalize W2 m ρ c = W
  after_reads_at

/-- A weight matrix turned. -/
theorem V3_v14 (k : Fin 128) (j : Fin 64) : (V3 m ρ c main_v14 : S128x64.Idx → EReal) (ix2 k j)
    = (m ((c : Thread nD τ).loc main_arg8) : S64x128.Idx → EReal) (ix2 j k) := by
  rw [← W2_args m ρ c main_arg8 (by decide)]
  show (StableHlo.after hostOps1 (W2 m ρ c) (Proc.devRef .tc main_v14) : S128x64.Idx → EReal) (ix2 k j) = _
  generalize W2 m ρ c = W
  after_reads_at

/-- A bias as a row. -/
theorem V3_v9 (j : Fin 64) : (V3 m ρ c main_v9 : S1x64.Idx → EReal) (ix2 0 j)
    = (m ((c : Thread nD τ).loc main_arg3) : S64.Idx → EReal) (ix1 j) := by
  rw [← W2_args m ρ c main_arg3 (by decide)]
  show (StableHlo.after hostOps1 (W2 m ρ c) (Proc.devRef .tc main_v9) : S1x64.Idx → EReal) (ix2 0 j) = _
  generalize W2 m ρ c = W
  after_reads_at

/-- A bias as a row. -/
theorem V3_v11 (j : Fin 64) : (V3 m ρ c main_v11 : S1x64.Idx → EReal) (ix2 0 j)
    = (m ((c : Thread nD τ).loc main_arg5) : S64.Idx → EReal) (ix1 j) := by
  rw [← W2_args m ρ c main_arg5 (by decide)]
  show (StableHlo.after hostOps1 (W2 m ρ c) (Proc.devRef .tc main_v11) : S1x64.Idx → EReal) (ix2 0 j) = _
  generalize W2 m ρ c = W
  after_reads_at

/-- A bias as a row. -/
theorem V3_v13 (j : Fin 64) : (V3 m ρ c main_v13 : S1x64.Idx → EReal) (ix2 0 j)
    = (m ((c : Thread nD τ).loc main_arg7) : S64.Idx → EReal) (ix1 j) := by
  rw [← W2_args m ρ c main_arg7 (by decide)]
  show (StableHlo.after hostOps1 (W2 m ρ c) (Proc.devRef .tc main_v13) : S1x64.Idx → EReal) (ix2 0 j) = _
  generalize W2 m ρ c = W
  after_reads_at

/-- A bias as a row. -/
theorem V3_v15 (j : Fin 64) : (V3 m ρ c main_v15 : S1x64.Idx → EReal) (ix2 0 j)
    = (m ((c : Thread nD τ).loc main_arg9) : S64.Idx → EReal) (ix1 j) := by
  rw [← W2_args m ρ c main_arg9 (by decide)]
  show (StableHlo.after hostOps1 (W2 m ρ c) (Proc.devRef .tc main_v15) : S1x64.Idx → EReal) (ix2 0 j) = _
  generalize W2 m ρ c = W
  after_reads_at

/-- The features as a plain function of batch, position and column. -/
def featsOf : Fin 16 → Fin 32768 → Fin 64 → EReal :=
  fun b n l => (m ((c : Thread nD τ).loc main_arg0) : S16x32768x64.Idx → EReal) (ix3 b n l)

/-- The hidden row as a plain function of the column. -/
def hiddenOf : Fin 64 → EReal := fun l => (m ((c : Thread nD τ).loc main_arg1) : S64x1.Idx → EReal) (ix2 l 0)

/-- A position's entry in the paired features. -/
theorem rows_at (b : Fin 16) (l : Fin 64) (n : Fin 32768) :
    rows (V1 m ρ c main_v0) b (ix3 0 (rowOf n) (laneOf l n)) = featsOf m c b n l := by
  rw [V1_v0]
  show shapeCast S16x16384x128 _ _ (ix3 b (rowOf n) (laneOf l n)) = _
  rw [paired_apply]
  unfold featsOf
  have hn := n.isLt
  have hl := l.isLt
  have e1 : (⟨(rowOf n).val * 2 + (laneOf l n).val / 64, by have := (rowOf n).isLt; have := (laneOf l n).isLt; omega⟩ : Fin 32768) = n := by
    apply Fin.ext
    show n.val / 2 * 2 + (n.val % 2 * 64 + l.val) / 64 = n.val
    omega
  have e2 : (⟨(laneOf l n).val % 64, by omega⟩ : Fin 64) = l := by
    apply Fin.ext
    show (n.val % 2 * 64 + l.val) % 64 = l.val
    omega
  rw [e1, e2]

/-- Both lanes of a column hold its hidden value. -/
theorem hidden_at (l : Fin 64) (n : Fin 32768) :
    (V1 m ρ c main_v2 : S1x128.Idx → EReal) (ix2 0 (laneOf l n)) = hiddenOf m c l := by
  rw [at_lane (l := l) (V1 m ρ c main_v2 : S1x128.Idx → EReal) (by rw [V1_v2_lo, V1_v2_hi]), V1_v2_lo]
  rfl

/-- The distances the first region ranks are the column's. -/
theorem dist_eq (b : Fin 16) (l : Fin 64) : dist (rows (V1 m ρ c main_v0) b) (V1 m ρ c main_v2) l
    = gap (fun n => featsOf m c b n l) (hiddenOf m c l) := by
  funext n
  unfold dist gap diff
  rw [rows_at, hidden_at]

/-- The first region's result array: place `k` of column `l` of batch `b`, for finite hidden values. -/
theorem ranked_at (ht : ∀ l, hiddenOf m c l ≠ ⊤) (hb : ∀ l, hiddenOf m c l ≠ ⊥) (b : Fin 16) (k l : Fin 64) :
    (W2 m ρ c (Proc.devRef .tc main_v3) : S16x64x64.Idx → EReal) (ix3 b k l)
      = farthest (fun n => featsOf m c b n l) (hiddenOf m c l) k := by
  have e : (W2 m ρ c (Proc.devRef .tc main_v3) : S16x64x64.Idx → EReal) = ranked (V1 m ρ c main_v0) (V1 m ρ c main_v2) :=
    (W2_arr m ρ c 2).trans (final0 (V1 m ρ) c)
  rw [e]
  show stored (rows (V1 m ρ c main_v0) b) (V1 m ρ c main_v2)
    (carried (rows (V1 m ρ c main_v0) b) (V1 m ρ c main_v2) k.val) (ix3 0 0 l) = _
  rw [stored_at k.val k.isLt (hiddenOf m c l) (ht l) (hb l) (V1_v2_lo m ρ c l) (V1_v2_hi m ρ c l), dist_eq, rows_at]
  rfl

/-- The second region's array from arrays that hold, at each index, the plain functions. -/
theorem headed_at {x : Fin 16 → Fin 32768 → Fin 64 → EReal} {h : Fin 64 → EReal} {ws : Fin 64 → Fin 4096 → EReal}
    {wr wz wc : Fin 64 → Fin 128 → EReal} {bs br bz bc : Fin 64 → EReal}
    (a5 : S16x1x4096.Idx → EReal) (a8 : S4096x64.Idx → EReal) (a9 : S1x64.Idx → EReal) (a7 : S16x1x64.Idx → EReal)
    (a10 : S128x64.Idx → EReal) (a11 : S1x64.Idx → EReal) (a12 : S128x64.Idx → EReal) (a13 : S1x64.Idx → EReal)
    (a14 : S128x64.Idx → EReal) (a15 : S1x64.Idx → EReal)
    (h5 : ∀ b q, a5 (ix3 b 0 q) = farthest (fun n => x b n ⟨q.val / 64, by omega⟩) (h ⟨q.val / 64, by omega⟩) ⟨q.val % 64, by omega⟩)
    (h8 : ∀ k j, a8 (ix2 k j) = ws j k) (h9 : ∀ j, a9 (ix2 0 j) = bs j) (h7 : ∀ b j, a7 (ix3 b 0 j) = h j)
    (h10 : ∀ k j, a10 (ix2 k j) = wr j k) (h11 : ∀ j, a11 (ix2 0 j) = br j)
    (h12 : ∀ k j, a12 (ix2 k j) = wz j k) (h13 : ∀ j, a13 (ix2 0 j) = bz j)
    (h14 : ∀ k j, a14 (ix2 k j) = wc j k) (h15 : ∀ j, a15 (ix2 0 j) = bc j)
    (b : Fin 16) (i : Fin 64) (n : Fin 32768) :
    headed a5 a8 a9 a7 a10 a11 a12 a13 a14 a15 (ix3 b i n) = answer x h ws bs wr br wz bz wc bc b i := by
  show mix (fun j => (∑ k : Fin 4096, a5 (ix3 b 0 k) * a8 (ix2 k j)) + a9 (ix2 0 j)) (fun k => a7 (ix3 b 0 k))
    (fun j k => a10 (ix2 k j)) (fun j => a11 (ix2 0 j)) (fun j k => a12 (ix2 k j)) (fun j => a13 (ix2 0 j))
    (fun j k => a14 (ix2 k j)) (fun j => a15 (ix2 0 j)) i = _
  simp only [h5, h7, h8, h9, h10, h11, h12, h13, h14, h15]
  rfl

/-- The kernel program's result array, for finite hidden values. -/
theorem result_at (ht : ∀ l, hiddenOf m c l ≠ ⊤) (hb : ∀ l, hiddenOf m c l ≠ ⊥) (b : Fin 16) (i : Fin 64) (n : Fin 32768) :
    (W4 m ρ c (Proc.devRef .tc main_v16) : S16x64x32768.Idx → EReal) (ix3 b i n)
      = answer (featsOf m c) (hiddenOf m c)
          (fun j k => (m ((c : Thread nD τ).loc main_arg2) : S64x4096.Idx → EReal) (ix2 j k))
          (fun j => (m ((c : Thread nD τ).loc main_arg3) : S64.Idx → EReal) (ix1 j))
          (fun j k => (m ((c : Thread nD τ).loc main_arg4) : S64x128.Idx → EReal) (ix2 j k))
          (fun j => (m ((c : Thread nD τ).loc main_arg5) : S64.Idx → EReal) (ix1 j))
          (fun j k => (m ((c : Thread nD τ).loc main_arg6) : S64x128.Idx → EReal) (ix2 j k))
          (fun j => (m ((c : Thread nD τ).loc main_arg7) : S64.Idx → EReal) (ix1 j))
          (fun j k => (m ((c : Thread nD τ).loc main_arg8) : S64x128.Idx → EReal) (ix2 j k))
          (fun j => (m ((c : Thread nD τ).loc main_arg9) : S64.Idx → EReal) (ix1 j)) b i := by
  have e : (W4 m ρ c (Proc.devRef .tc main_v16) : S16x64x32768.Idx → EReal) = headedOf (V3 m ρ) c :=
    (W4_arr m ρ c 10).trans (final1 (V3 m ρ) c)
  rw [e]
  exact headed_at _ _ _ _ _ _ _ _ _ _ (fun b q => (V3_v5 m ρ c b q).trans (ranked_at m ρ c ht hb b _ _)) (V3_v8 m ρ c)
    (V3_v9 m ρ c) (V3_v7 m ρ c) (V3_v10 m ρ c) (V3_v11 m ρ c) (V3_v12 m ρ c) (V3_v13 m ρ c) (V3_v14 m ρ c)
    (V3_v15 m ρ c) b i n

end Cert.Hand

end
-- ==== Proof.RefStages.lean ====
/-
  The reference's chain of array operations cut into named stages (hand-written).
-/
module

public import proofs.«01_k».proof.Proof.Gen.ReferenceIdeal.Run
public import proofs.«01_k».proof.Proof.Formula

@[expose] public section

set_option maxRecDepth 16384

noncomputable section

namespace Cert.Hand.Ref

open Cert.ReferenceIdeal Cert.ReferenceIdeal.Gen
open Idealize.ShloMosaic Idealize.ShloMosaic.TcCoe
open Idealize.SL.Sem

/-- The hidden column over every batch and position. -/
def wide (h : FVec Ideal S64x1 .f32) : FVec Ideal S16x64x32768 .f32 :=
  broadcastInDim S16x64x32768 ![0, 1, 2] bcast_S1x64x32768_S16x64x32768_0_1_2
    (broadcastInDim S1x64x32768 ![1, 2] bcast_S64x32768_S1x64x32768_1_2
      (broadcastInDim S64x32768 ![0, 1] bcast_S64x1_S64x32768_0_1 h))

/-- The features with the columns before the positions. -/
def turned (x : FVec Ideal S16x32768x64 .f32) : FVec Ideal S16x64x32768 .f32 :=
  transpose S16x64x32768 [0, 2, 1] x transposes_S16x32768x64_S16x64x32768_0_2_1

/-- The distances that are ranked. -/
def gaps (x : FVec Ideal S16x64x32768 .f32) (h : FVec Ideal S16x64x32768 .f32) : FVec Ideal S16x64x32768 .f32 :=
  Host.absf (subf x h)

/-- The positions of the greatest distances. -/
def tops (d : FVec Ideal S16x64x32768 .f32) : IVec S16x64x64 32 :=
  (Host.topK S16x64x64 2 (FloatOps.cmpfTotal .gt) d sliceFits_S16x64x32768_S16x64x64).2

/-- A position counted from the end when it is negative, as a start index. -/
def starts (t : IVec S16x64x64 32) : IVec S16x64x64x1 32 :=
  shapeCast _ (select (cmpi .slt t (broadcastInDim S16x64x64 ![] bcast_S_S16x64x64 (constantI S_ 32 0#32)))
    (addi t (broadcastInDim S16x64x64 ![] bcast_S_S16x64x64 (constantI S_ 32 32768#32))) t) shapeCasts_S16x64x64_S16x64x64x1

/-- Whether a start index lies on the axis. -/
def inside (w : IVec S16x64x64x1 32) : IVec S16x64x64 1 :=
  Host.reduce IntOp.andi
    (andi (cmpi .sge w (broadcastInDim S16x64x64x1 ![] bcast_S_S16x64x64x1 (constantI S_ 32 0#32)))
      (cmpi .sle w (broadcastInDim S16x64x64x1 ![0, 1, 2, 3] bcast_S1x1x1x1_S16x64x64x1_0_1_2_3
        (broadcastInDim S1x1x1x1 ![3] bcast_S1_S1x1x1x1_3 (constantI S1 32 32767#32)))))
    (constantI S_ 1 1#1) reducesTo_S16x64x64x1_S16x64x64_d3 h_S_

/-- The entries at the start indices. -/
def picked (x : FVec Ideal S16x64x32768 .f32) (w : IVec S16x64x64x1 32) : FVec Ideal S16x64x64 .f32 :=
  Host.gather gather_S16x64x32768_S16x64x64x1_S16x64x64_n_2_01_01_2_3_111 x w

/-- The entries, with a filler where the index is off the axis. -/
def filled (v : IVec S16x64x64 1) (x : FVec Ideal S16x64x64 .f32) : FVec Ideal S16x64x64 .f32 :=
  select v x (broadcastInDim S16x64x64 ![] bcast_S_S16x64x64 (constant S_ .f32 0x7FC00000#32))

/-- A bias over every batch. -/
def biased (b : FVec Ideal S64 .f32) : FVec Ideal S16x64 .f32 :=
  broadcastInDim S16x64 ![0, 1] bcast_S1x64_S16x64_0_1 (broadcastInDim S1x64 ![1] bcast_S64_S1x64_1 b)

/-- The linear summary of the flattened entries. -/
def summed (x : FVec Ideal S16x64x64 .f32) (w : FVec Ideal S64x4096 .f32) (b : FVec Ideal S64 .f32) : FVec Ideal S16x64 .f32 :=
  addf (Host.dotGeneral dot_S16x4096_S4096x64_S16x64_1_0_0_1_n_n none (shapeCast _ x shapeCasts_S16x64x64_S16x4096)
    (transpose S4096x64 [1, 0] w transposes_S64x4096_S4096x64_1_0)) (biased b)

/-- The mean over the positions. -/
def averaged (h : FVec Ideal S16x64x32768 .f32) : FVec Ideal S16x64 .f32 :=
  Host.divf (Host.reduceAdd h (constant S_ .f32 0x00000000#32) reducesTo_S16x64x32768_S16x64_d2 h_S_)
    (broadcastInDim S16x64 ![] bcast_S_S16x64 (constant S_ .f32 0x47000000#32))

/-- The number one everywhere. -/
def ones : FVec Ideal S16x64 .f32 := broadcastInDim S16x64 ![] bcast_S_S16x64 (constant S_ .f32 0x3F800000#32)

/-- A linear map of two rows side by side. -/
def joined (p q : FVec Ideal S16x64 .f32) (w : FVec Ideal S64x128 .f32) (b : FVec Ideal S64 .f32) : FVec Ideal S16x64 .f32 :=
  addf (Host.dotGeneral dot_S16x128_S128x64_S16x64_1_0_0_1_n_n none
    (concatenate S16x128 1 [⟨S16x64, p⟩, ⟨S16x64, q⟩] concatenates_S16x64_S16x64_S16x128_d1)
    (transpose S128x64 [1, 0] w transposes_S64x128_S128x64_1_0)) (biased b)

/-- The logistic function, as the reference writes it. -/
def gated (x : FVec Ideal S16x64 .f32) : FVec Ideal S16x64 .f32 := Host.divf ones (addf ones (Host.exp (Host.negf x)))

/-- The update of the summary by its gate. -/
def updated (z t k : FVec Ideal S16x64 .f32) : FVec Ideal S16x64 .f32 := addf (mulf z (Host.tanh k)) (mulf (subf ones z) t)

/-- The update over every position. -/
def spread (x : FVec Ideal S16x64 .f32) : FVec Ideal S16x64x32768 .f32 :=
  broadcastInDim S16x64x32768 ![0, 1, 2] bcast_S16x64x1_S16x64x32768_0_1_2
    (broadcastInDim S16x64x1 ![0, 1] bcast_S16x64_S16x64x1_0_1 x)

/-- The entries the reference takes. -/
def taken (x : FVec Ideal S16x64x32768 .f32) (w : IVec S16x64x64x1 32) : FVec Ideal S16x64x64 .f32 :=
  filled (inside w) (picked x w)

/-- The recurrent cell from the summary and the mean. -/
def cell (t h : FVec Ideal S16x64 .f32) (wr : FVec Ideal S64x128 .f32) (br : FVec Ideal S64 .f32) (wz : FVec Ideal S64x128 .f32)
    (bz : FVec Ideal S64 .f32) (wc : FVec Ideal S64x128 .f32) (bc : FVec Ideal S64 .f32) : FVec Ideal S16x64 .f32 :=
  updated (gated (joined t h wz bz)) t (joined t (mulf h (gated (joined t h wr br))) wc bc)

/-- The whole reference. -/
def whole (x : FVec Ideal S16x32768x64 .f32) (h : FVec Ideal S64x1 .f32) (ws : FVec Ideal S64x4096 .f32) (bs : FVec Ideal S64 .f32)
    (wr : FVec Ideal S64x128 .f32) (br : FVec Ideal S64 .f32) (wz : FVec Ideal S64x128 .f32)
    (bz : FVec Ideal S64 .f32) (wc : FVec Ideal S64x128 .f32) (bc : FVec Ideal S64 .f32) : FVec Ideal S16x64x32768 .f32 :=
  spread (cell (summed (taken (turned x) (starts (tops (gaps (turned x) (wide h))))) ws bs) (averaged (wide h)) wr br wz bz wc bc)

/-- The reference's result array is the stages put together. -/
theorem result_eq (m : (ℓ : Loc nD τ sig) → Buf (Elt Ideal) ℓ) (c : Dev nD) :
    (Cert.ReferenceIdeal.Value.res_main_v53 m c : FVec Ideal S16x64x32768 .f32)
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := rfl

end Cert.Hand.Ref

end
-- ==== Proof.RefTake.lean ====
/-
  The entries the reference takes, read at an index (hand-written).
-/
module

public import proofs.«01_k».proof.Proof.RefStages
public import Idealize.ShloMosaic.Lib.DynamicIndex
public import Idealize.ShloMosaic.Lib.ReduceAll
public import Idealize.ShloMosaic.Lib.ValueIdxCore

@[expose] public section

set_option maxRecDepth 16384

noncomputable section

namespace Cert.Hand.Ref

open Cert.ReferenceIdeal Cert.ReferenceIdeal.Gen
open Idealize.ShloMosaic Idealize.ShloMosaic.TcCoe

/-- The features turned, at an index. -/
theorem turned_apply (x : FVec Ideal S16x32768x64 .f32) (b : Fin 16) (l : Fin 64) (n : Fin 32768) :
    turned x (ix3 b l n) = x (ix3 b n l) := by
  unfold turned
  pointwise

/-- The hidden column over every position, at an index. -/
theorem wide_apply (h : FVec Ideal S64x1 .f32) (b : Fin 16) (l : Fin 64) (n : Fin 32768) :
    wide h (ix3 b l n) = h (ix2 l 0) := by
  unfold wide
  pointwise

/-- A ranked distance at an index. -/
theorem gaps_apply (x h : FVec Ideal S16x64x32768 .f32) (i : S16x64x32768.Idx) :
    gaps x h i = max ((x i : EReal) - h i) (-((x i : EReal) - h i)) := rfl

/-- The comparison the reference ranks by. -/
theorem ranks_eq {N : ℕ} (f : Fin N → EReal) :
    (fun k k' : Fin N => (FloatOps.cmpfTotal (F := Ideal) (φ := .f32) .gt (f k) (f k') == 1#1)) = gtv f := by
  funext k k'
  show (Ideal.cmp .ogt (f k) (f k') == 1#1) = decide (f k' < f k)
  unfold Ideal.cmp
  by_cases e : f k' < f k <;> simp [e]

/-- A place is where the sort by value puts it. -/
theorem place_eq {N : ℕ} (f : Fin N → EReal) (k : Fin N) : place f k = sortedFrom (gtv f) k := rfl

/-- A sort of two arrays along an axis, its second result at an index. -/
theorem sorted_snd {α β : Type} (s : Shape) (a : Fin s.rank) (cmp : α × β → α × β → BitVec 1) (x : s.Idx → α) (y : s.Idx → β)
    (j : s.Idx) : (Host.sort2 s a.val cmp x y).2 j = y (j.along a (sortedFrom (fun k k' =>
      cmp (x (j.along a k), y (j.along a k)) (x (j.along a k'), y (j.along a k')) == 1#1) (j a))) := by
  unfold Host.sort2
  rw [dif_pos a.isLt]

/-- Replacing the last coordinate. -/
theorem along_last (b : Fin 16) (l : Fin 64) (q n : Fin 32768) : (ix3 b l q : S16x64x32768.Idx).along 2 n = ix3 b l n := by
  funext a
  match a with
  | ⟨0, _⟩ => rfl
  | ⟨1, _⟩ => rfl
  | ⟨2, _⟩ => rfl

/-- The position of the `k`-th greatest distance of a column, as a word. -/
theorem tops_apply (d : FVec Ideal S16x64x32768 .f32) (b : Fin 16) (l k : Fin 64) :
    tops d (ix3 b l k) = BitVec.ofNat 32 (place (fun n => d (ix3 b l n)) ⟨k.val, by omega⟩).val := by
  have hk : k.val < 32768 := by omega
  have e1 : ∀ y : S16x64x32768.Idx → BitVec 32,
      extractStridedSlice S16x64x64 (fun _ => 0) y sliceFits_S16x64x32768_S16x64x64 (ix3 b l k) = y (ix3 b l ⟨k.val, hk⟩) := by
    intro y
    refine congrArg y (funext fun a => Fin.ext ?_)
    match a with
    | ⟨0, _⟩ => exact Nat.zero_add _
    | ⟨1, _⟩ => exact Nat.zero_add _
    | ⟨2, _⟩ => exact Nat.zero_add _
  unfold tops Host.topK
  dsimp only
  refine (e1 _).trans ?_
  refine (sorted_snd S16x64x32768 2 _ d _ (ix3 b l ⟨k.val, hk⟩)).trans ?_
  rw [place_eq, ← ranks_eq]
  have e2 : ∀ n : Fin 32768, d ((ix3 b l ⟨k.val, hk⟩ : S16x64x32768.Idx).along 2 n) = d (ix3 b l n) := fun n => by
    rw [along_last]
  have e3 : (fun n n' : Fin 32768 => FloatOps.cmpfTotal (F := Ideal) (φ := .f32) .gt
        (d ((ix3 b l ⟨k.val, hk⟩ : S16x64x32768.Idx).along 2 n)) (d ((ix3 b l ⟨k.val, hk⟩ : S16x64x32768.Idx).along 2 n')) == 1#1)
      = fun n n' => FloatOps.cmpfTotal (F := Ideal) (φ := .f32) .gt (d (ix3 b l n)) (d (ix3 b l n')) == 1#1 := by
    funext n n'
    rw [e2, e2]
  rw [← e3]
  generalize hq : sortedFrom (fun n n' : Fin 32768 => FloatOps.cmpfTotal (F := Ideal) (φ := .f32) .gt
        (d ((ix3 b l ⟨k.val, hk⟩ : S16x64x32768.Idx).along 2 n)) (d ((ix3 b l ⟨k.val, hk⟩ : S16x64x32768.Idx).along 2 n')) == 1#1)
        ⟨k.val, hk⟩ = q
  have hl : ∀ q' : Fin 32768, q' = q → iotaInDim S16x64x32768 32 2 ((ix3 b l ⟨k.val, hk⟩ : S16x64x32768.Idx).along 2 q')
      = BitVec.ofNat 32 q.val := by
    intro q' e
    rw [along_last, e]
    rfl
  exact (dif_pos (show 2 < 3 by decide)).trans (hl _ hq)

/-- A position as a start index: a word on the axis is kept. -/
theorem starts_apply (t : IVec S16x64x64 32) (b : Fin 16) (l k : Fin 64) (n : Fin 32768)
    (ht : t (ix3 b l k) = BitVec.ofNat 32 n.val) (z : Fin 1) :
    starts t (ix4 b l k z) = BitVec.ofNat 32 n.val := by
  unfold starts
  pointwise
  rw [ht]
  have hn := n.isLt
  have e : (BitVec.ofNat 32 n.val).toInt = n.val := toInt_ofNat_of_lt (by omega)
  have hneg : ¬ ((n.val : ℤ) < 0) := by omega
  have hc : IntOp.cmpi .slt (BitVec.ofNat 32 n.val) 0#32 = 0#1 := by simp [IntOp.cmpi, BitVec.slt, e, hneg]
  rw [hc]
  rfl

/-- A start index on the axis is inside. -/
theorem inside_apply (w : IVec S16x64x64x1 32) (hw : ∀ i, ∃ n : Fin 32768, w i = BitVec.ofNat 32 n.val) (j : S16x64x64.Idx) :
    inside w j = 1#1 := by
  unfold inside
  refine Host.reduce_andi_one _ _ _ _ _ rfl fun i => ?_
  obtain ⟨n, hn⟩ := hw i
  show IntOp.andi (IntOp.cmpi .sge (w i) 0#32) (IntOp.cmpi .sle (w i) 32767#32) = 1#1
  rw [hn]
  have := n.isLt
  have e : (BitVec.ofNat 32 n.val).toInt = n.val := toInt_ofNat_of_lt (by omega)
  have h' : n.val ≤ 32767 := by omega
  simp [IntOp.andi, IntOp.cmpi, BitVec.sle, e, h']

/-- The entry at a start index on the axis. -/
theorem picked_apply (x : FVec Ideal S16x64x32768 .f32) (w : IVec S16x64x64x1 32) (b : Fin 16) (l k : Fin 64) (n : Fin 32768)
    (hw : w (ix4 b l k 0) = BitVec.ofNat 32 n.val) : picked x w (ix3 b l k) = x (ix3 b l n) := by
  unfold picked Host.gather
  refine congrArg x (funext fun a => Fin.ext ?_)
  generalize hd : gather_S16x64x32768_S16x64x64x1_S16x64x64_n_2_01_01_2_3_111 = d
  show d.start (ix3 b l k) w a + d.batchCoord (ix3 b l k) a + d.offCoord (ix3 b l k) a = _
  have ho : d.offCoord (ix3 b l k) a = 0 := by
    subst hd
    exact GatherDims.offCoord_eq_zero _ _ _ (by revert a; decide)
  rw [ho]
  have h012 : a = 0 ∨ a = 1 ∨ a = 2 := by clear ho; revert a; decide
  rcases h012 with rfl | rfl | rfl
  · rw [GatherDims.start_batching _ _ _ _ (by subst hd; decide)]
    simp only [Nat.zero_add, Nat.add_zero]
    subst hd
    rfl
  · rw [GatherDims.start_batching _ _ _ _ (by subst hd; decide)]
    simp only [Nat.zero_add, Nat.add_zero]
    subst hd
    rfl
  · rw [GatherDims.batchCoord_eq_zero _ _ _ (by subst hd; decide)]
    simp only [Nat.add_zero]
    unfold GatherDims.start
    rw [dif_pos (show (2 : Fin 3) ∈ d.startIndexMap by subst hd; decide)]
    have hn := n.isLt
    have e : (BitVec.ofNat 32 n.val).toInt = n.val := toInt_ofNat_of_lt (by omega)
    have hi : d.siIdx (ix3 b l k) ⟨List.idxOf (2 : Fin 3) d.startIndexMap, List.idxOf_lt_length_iff.2 (by subst hd; decide)⟩ = ix4 b l k 0 := by
      subst hd
      funext q
      refine Fin.ext ?_
      match q with
      | ⟨0, _⟩ => rfl
      | ⟨1, _⟩ => rfl
      | ⟨2, _⟩ => rfl
      | ⟨3, _⟩ => rfl
    rw [hi, hw, e]
    subst hd
    show min n.val (32768 - 1) = n.val
    omega

/-- The filled entries at an index on the axis. -/
theorem filled_apply (v : IVec S16x64x64 1) (x : FVec Ideal S16x64x64 .f32) (i : S16x64x64.Idx) (hv : v i = 1#1) :
    filled v x i = x i := by
  unfold filled
  generalize broadcastInDim S16x64x64 ![] bcast_S_S16x64x64 (constant (F := Ideal) S_ .f32 0x7FC00000#32) = y
  show Scalar.select (v i) (x i) (y i) = x i
  rw [hv]
  rfl

/-- The entries the reference takes: of each column the farthest from the hidden value, in order. -/
theorem taken_apply (x : FVec Ideal S16x32768x64 .f32) (h : FVec Ideal S64x1 .f32) (b : Fin 16) (l k : Fin 64) :
    taken (turned x) (starts (tops (gaps (turned x) (wide h)))) (ix3 b l k)
      = farthest (fun n => x (ix3 b n l)) (h (ix2 l 0)) k := by
  have hd : ∀ (b : Fin 16) (l : Fin 64), (fun n => gaps (turned x) (wide h) (ix3 b l n))
      = gap (fun n => x (ix3 b n l)) (h (ix2 l 0)) := by
    intro b l
    funext n
    rw [gaps_apply, turned_apply, wide_apply]
    rfl
  have ht := tops_apply (gaps (turned x) (wide h))
  generalize tops (gaps (turned x) (wide h)) = t at ht ⊢
  simp only [hd] at ht
  have hw := fun (b : Fin 16) (l k : Fin 64) (z : Fin 1) => starts_apply t b l k _ (ht b l k) z
  generalize starts t = w at hw ⊢
  have hall : ∀ i, ∃ n : Fin 32768, w i = BitVec.ofNat 32 n.val := by
    intro i
    have e : i = ix4 (i 0) (i 1) (i 2) (i 3) := by
      funext a
      match a with
      | ⟨0, _⟩ => rfl
      | ⟨1, _⟩ => rfl
      | ⟨2, _⟩ => rfl
      | ⟨3, _⟩ => rfl
    rw [e]
    exact ⟨_, hw (i 0) (i 1) (i 2) (i 3)⟩
  unfold taken farthest
  rw [filled_apply _ _ _ (inside_apply w hall (ix3 b l k)), picked_apply (turned x) w b l k _ (hw b l k 0), turned_apply]

end Cert.Hand.Ref

end
-- ==== Proof.RefCell.lean ====
/-
  The reference's summary, mean and recurrent cell, read at an index (hand-written).
-/
module

public import proofs.«01_k».proof.Proof.RefStages

@[expose] public section

set_option maxRecDepth 16384

noncomputable section

namespace Cert.Hand.Ref

open Cert.ReferenceIdeal Cert.ReferenceIdeal.Gen
open Idealize.ShloMosaic Idealize.ShloMosaic.TcCoe

/-- A bias over every batch, at an index. -/
theorem biased_apply (v : FVec Ideal S64 .f32) (b : Fin 16) (j : Fin 64) : biased v (ix2 b j) = v (ix1 j) := by
  unfold biased
  pointwise

/-- The linear summary at an index. -/
theorem summed_apply (x : FVec Ideal S16x64x64 .f32) (w : FVec Ideal S64x4096 .f32) (v : FVec Ideal S64 .f32) (b : Fin 16) (j : Fin 64) :
    summed x w v (ix2 b j) = (∑ q : Fin 4096, x (ix3 b ⟨q.val / 64, by omega⟩ ⟨q.val % 64, by omega⟩) * w (ix2 j q)) + v (ix1 j) := by
  show Host.dotGeneral dot_S16x4096_S4096x64_S16x64_1_0_0_1_n_n none _ _ (ix2 b j) + biased v (ix2 b j) = _
  rw [biased_apply]
  refine congrArg (· + v (ix1 j)) ?_
  pointwise

/-- The linear map of two rows at an index. -/
theorem joined_apply (p q : FVec Ideal S16x64 .f32) (w : FVec Ideal S64x128 .f32) (v : FVec Ideal S64 .f32) (b : Fin 16) (j : Fin 64) :
    joined p q w v (ix2 b j) = lin (fun k => p (ix2 b k)) (fun k => q (ix2 b k)) (fun j k => w (ix2 j k)) (fun j => v (ix1 j)) j := by
  show Host.dotGeneral dot_S16x128_S128x64_S16x64_1_0_0_1_n_n none _ _ (ix2 b j) + biased v (ix2 b j) = _
  rw [biased_apply]
  unfold lin
  pointwise

/-- The reference's logistic at an index. -/
theorem gated_apply (x : FVec Ideal S16x64 .f32) (i : S16x64.Idx) : gated x i = Ideal.logistic (x i) := by
  unfold gated ones
  pointwise
  rfl

/-- A sum of real numbers is their sum as extended reals. -/
theorem real_sum {ι : Type} (s : Finset ι) (f : ι → ℝ) : ((∑ n ∈ s, f n : ℝ) : EReal) = ∑ n ∈ s, (f n : EReal) := by
  classical
  induction s using Finset.induction_on with
  | empty => simp
  | insert a s ha ih => rw [Finset.sum_insert ha, Finset.sum_insert ha, EReal.coe_add, ih]

/-- The mean of a hidden value over every position is the value, when it is a real number. -/
theorem averaged_apply (h : FVec Ideal S16x64x32768 .f32) (b : Fin 16) (j : Fin 64) (r : ℝ)
    (hr : ∀ n, h (ix3 b j n) = (r : EReal)) : averaged h (ix2 b j) = (r : EReal) := by
  unfold averaged
  pointwise
  have hc : Ideal.ofBits .f32 0x47000000#32 = ((32768 : ℝ) : EReal) := by
    simp [Ideal.ofBits, Ideal.ieee, -EReal.coe_mul]; norm_num
  have hs : (∑ n : Fin 32768, h (ix3 b j n) : EReal) = ((∑ n : Fin 32768, r : ℝ) : EReal) := by
    rw [real_sum]
    exact Finset.sum_congr rfl fun n _ => hr n
  have hd : (∑ n : Fin 32768, r) = 32768 * r := by
    rw [Finset.sum_const, Finset.card_univ, Fintype.card_fin, nsmul_eq_mul, Nat.cast_ofNat]
  rw [hd] at hs
  have he : (32768 : ℝ) * r * (1 / 32768) = r := by field_simp
  rw [hs, hc, Ideal.div_coe (by norm_num), ← EReal.coe_mul, he]

/-- The update at an index. -/
theorem updated_apply (z t k : FVec Ideal S16x64 .f32) (i : S16x64.Idx) :
    updated z t k i = z i * Ideal.tanh (k i) + (1 - z i) * t i := by
  unfold updated ones
  pointwise

/-- The update over every position, at an index. -/
theorem spread_apply (x : FVec Ideal S16x64 .f32) (b : Fin 16) (j : Fin 64) (n : Fin 32768) :
    spread x (ix3 b j n) = x (ix2 b j) := by
  unfold spread
  pointwise

end Cert.Hand.Ref

end
-- ==== Proof.RefValue.lean ====
/-
  The reference's result as the formula both programs compute (hand-written).
-/
module

public import proofs.«01_k».proof.Proof.RefTake
public import proofs.«01_k».proof.Proof.RefCell

@[expose] public section

set_option maxRecDepth 16384

noncomputable section

namespace Cert.Hand.Ref

open Cert.ReferenceIdeal Cert.ReferenceIdeal.Gen
open Idealize.ShloMosaic Idealize.ShloMosaic.TcCoe

/-- The recurrent cell at an index is the gated mix of the two rows. -/
theorem cell_apply (t h : FVec Ideal S16x64 .f32) (wr : FVec Ideal S64x128 .f32) (br : FVec Ideal S64 .f32)
    (wz : FVec Ideal S64x128 .f32) (bz : FVec Ideal S64 .f32) (wc : FVec Ideal S64x128 .f32) (bc : FVec Ideal S64 .f32)
    (b : Fin 16) (i : Fin 64) :
    cell t h wr br wz bz wc bc (ix2 b i) = mix (fun k => t (ix2 b k)) (fun k => h (ix2 b k)) (fun j k => wr (ix2 j k))
      (fun j => br (ix1 j)) (fun j k => wz (ix2 j k)) (fun j => bz (ix1 j)) (fun j k => wc (ix2 j k)) (fun j => bc (ix1 j)) i := by
  have hg : ∀ k : Fin 64, (mulf h (gated (joined t h wr br))) (ix2 b k)
      = h (ix2 b k) * Ideal.logistic (lin (fun k => t (ix2 b k)) (fun k => h (ix2 b k)) (fun j k => wr (ix2 j k)) (fun j => br (ix1 j)) k) := by
    intro k
    show h (ix2 b k) * gated (joined t h wr br) (ix2 b k) = _
    rw [gated_apply, joined_apply]
  unfold cell mix
  rw [updated_apply, gated_apply, joined_apply, joined_apply]
  simp only [hg]

/-- The reference's result array, for hidden values that are real numbers. -/
theorem whole_apply (x : FVec Ideal S16x32768x64 .f32) (h : FVec Ideal S64x1 .f32) (ws : FVec Ideal S64x4096 .f32)
    (bs : FVec Ideal S64 .f32) (wr : FVec Ideal S64x128 .f32) (br : FVec Ideal S64 .f32) (wz : FVec Ideal S64x128 .f32)
    (bz : FVec Ideal S64 .f32) (wc : FVec Ideal S64x128 .f32) (bc : FVec Ideal S64 .f32)
    (hr : ∀ l : Fin 64, ∃ r : ℝ, h (ix2 l 0) = (r : EReal)) (b : Fin 16) (i : Fin 64) (n : Fin 32768) :
    whole x h ws bs wr br wz bz wc bc (ix3 b i n)
      = answer (fun b n l => x (ix3 b n l)) (fun l => h (ix2 l 0)) (fun j k => ws (ix2 j k)) (fun j => bs (ix1 j))
          (fun j k => wr (ix2 j k)) (fun j => br (ix1 j)) (fun j k => wz (ix2 j k)) (fun j => bz (ix1 j))
          (fun j k => wc (ix2 j k)) (fun j => bc (ix1 j)) b i := by
  have ha : ∀ k : Fin 64, averaged (wide h) (ix2 b k) = h (ix2 k 0) := by
    intro k
    obtain ⟨r, e⟩ := hr k
    rw [e]
    exact averaged_apply (wide h) b k r fun n => (wide_apply h b k n).trans e
  unfold whole answer
  rw [spread_apply, cell_apply]
  simp only [ha, summed_apply, taken_apply]
  rfl

end Cert.Hand.Ref

end
-- ==== Proof.Agree.lean ====
/-
  The two programs' results are the same array (hand-written).
-/
module

public import proofs.«01_k».proof.Defs
public import proofs.«01_k».proof.Proof.Result
public import proofs.«01_k».proof.Proof.RefValue

@[expose] public section

set_option maxRecDepth 16384

noncomputable section

namespace Cert.Hand

open Cert.KernelIdeal Cert.KernelIdeal.Gen
open Idealize.ShloMosaic Idealize.ShloMosaic.TcCoe
open Idealize.SL.Sem

/-- The precondition's one side condition. -/
theorem preFacts : Cert.Pre_finite_hidden.Facts where
  bcast_S_S64x1 := by decide

/-- An extended real whose absolute value is below the top is neither infinity. -/
theorem finite_of_abs {x : EReal} (h : max x (-x) < ⊤) : x ≠ ⊤ ∧ x ≠ ⊥ := by
  constructor <;> rintro rfl <;> simp at h

/-- Under the precondition every hidden value is finite. -/
theorem finite_of_pre (m : (ℓ : Loc nD τ sig) → Buf (Elt Ideal) ℓ)
    (hp : Pre_KernelIdeal_finite_hidden (hPre_finite_hidden := preFacts) m) (c : Dev nD) (l : Fin 64) :
    hiddenOf m c l ≠ ⊤ ∧ hiddenOf m c l ≠ ⊥ := by
  refine finite_of_abs ?_
  have e := congrFun (hp c) (ix2 l 0)
  have e' : Ideal.cmp .olt (max (hiddenOf m c l) (-hiddenOf m c l)) (Ideal.ofBits .f32 0x7F800000#32) = 1#1 := e
  rw [bits_top] at e'
  by_contra hn
  simp [Ideal.cmp, hn] at e'

/-- The reference's result is the kernel program's, from the same arguments. -/
theorem agree (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (hf : ∀ l, hiddenOf m c l ≠ ⊤ ∧ hiddenOf m c l ≠ ⊥)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9)) :
    (Cert.ReferenceIdeal.Value.res_main_v53 m' c : S16x64x32768.Idx → EReal) = W4 m ρ c (Proc.devRef .tc main_v16) := by
  refine (Ref.result_eq m' c).trans ?_
  rw [h0, h1, h2, h3, h4, h5, h6, h7, h8, h9]
  funext i
  obtain ⟨b, j, n, rfl⟩ : ∃ (b : Fin 16) (j : Fin 64) (n : Fin 32768), i = ix3 b j n := ⟨i 0, i 1, i 2, funext fun a => by
    match a with
    | ⟨0, _⟩ => rfl
    | ⟨1, _⟩ => rfl
    | ⟨2, _⟩ => rfl⟩
  refine (Ref.whole_apply _ _ _ _ _ _ _ _ _ _ (fun l => ?_) b j n).trans ?_
  · exact ⟨(hiddenOf m c l).toReal, (EReal.coe_toReal (hf l).1 (hf l).2).symm⟩
  · exact (result_at m ρ c (fun l => (hf l).1) (fun l => (hf l).2) b j n).symm

end Cert.Hand

end
-- ==== Proof.lean ====
/-
  The certificate: the frames of the three programs, the sign rewrite, and the equality of the two results under a finite
  hidden row. The arithmetic is in Proof/: Agree puts Result (the kernel program) and RefValue (the reference) together.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The reference runs to the end, with its arguments unchanged and no semaphore raised. -/
theorem reference_frame : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run m ρ)

/-- From the same arguments, the hidden row finite, both programs end with the same result. -/
theorem equal : Cert.algebraic_KernelIdeal_ReferenceIdeal_pre_finite_hidden (hPre_finite_hidden := Cert.Hand.preFacts) := by
  intro m g m' g' hp ha
  refine ⟨fun c => Cert.KernelIdeal.Gen.W4 m g c (Proc.devRef .tc Cert.KernelIdeal.main_v16), Cert.Hand.run m g, ?_⟩
  refine (θ_run _ _ _).mono (fun r h c => ⟨(h c).1.trans ?_, (h c).2⟩) (Cert.ReferenceIdeal.Value.run m' g')
  obtain ⟨h0, h1, h2, h3, h4, h5, h6, h7, h8, h9, -⟩ := ha c
  exact Cert.Hand.agree m g m' c (fun l => Cert.Hand.finite_of_pre m hp c l) h0 h1 h2 h3 h4 h5 h6 h7 h8 h9

/-- Every claim of the certificate. -/
theorem claim : Cert.Claim :=
  ⟨Cert.Kernel.Gen.facts, Cert.KernelIdeal.Gen.facts, Cert.ReferenceIdeal.Gen.facts, Cert.Hand.preFacts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    Idealize.ShloMosaic.IdealRules.sign_bit.maskStatement Cert.KernelIdeal.S16384x128 .f32, equal⟩

end Cert.Proof

end
